-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x1024 : Shape := ⟨2, ![1024, 1024]⟩
abbrev S2048x32x128 : Shape := ⟨3, ![2048, 32, 128]⟩
abbrev S_ : Shape := ⟨0, ![]⟩

class Facts : Prop where
  bcast_S_S512x1024 : S_.BroadcastsInDim S512x1024 (![] : Fin 0 → Fin S512x1024.rank)
  bcast_S_S1024x1024 : S_.BroadcastsInDim S1024x1024 (![] : Fin 0 → Fin S1024x1024.rank)
  bcast_S_S2048x32x128 : S_.BroadcastsInDim S2048x32x128 (![] : Fin 0 → Fin S2048x32x128.rank)

variable [Facts]

def fn {F : FTy → Type} [FloatOps F] (main_arg0 : FVec F S512x1024 .f32) (main_arg1 : FVec F S1024x1024 .f32) (main_arg2 : FVec F S1024x1024 .f32) (main_arg3 : FVec F S2048x32x128 .f32) (main_arg4 : FVec F S2048x32x128 .f32) : IVec S512x1024 1 × IVec S1024x1024 1 × IVec S2048x32x128 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S2048x32x128 .f32 := Host.absf main_arg3
  let main_cst_1 : FVec F S_ .f32 := constant S_ .f32 0x7F800000#32
  let main_v7 : FVec F S2048x32x128 .f32 := broadcastInDim S2048x32x128 ![] bcast_S_S2048x32x128 main_cst_1
  let main_v8 : IVec S2048x32x128 1 := cmpf .olt main_v6 main_v7
  (main_v2, main_v5, main_v8)
-- ==== Pre_finite_ReferenceIdeal.lean ====
abbrev S512x1024 : Shape := ⟨2, ![512, 1024]⟩
abbrev S1024x4096 : Shape := ⟨2, ![1024, 4096]⟩
abbrev S4096x1024 : Shape := ⟨2, ![4096, 1024]⟩
abbrev S2048x32x128 : Shape := ⟨3, ![2048, 32, 128]⟩
abbrev S_ : Shape := ⟨0, ![]⟩

class Facts : Prop where
  bcast_S_S512x1024 : S_.BroadcastsInDim S512x1024 (![] : Fin 0 → Fin S512x1024.rank)
  bcast_S_S1024x4096 : S_.BroadcastsInDim S1024x4096 (![] : Fin 0 → Fin S1024x4096.rank)
  bcast_S_S2048x32x128 : S_.BroadcastsInDim S2048x32x128 (![] : Fin 0 → Fin S2048x32x128.rank)

variable [Facts]

def fn {F : FTy → Type} [FloatOps F] (main_arg0 : FVec F S512x1024 .f32) (main_arg1 : FVec F S1024x4096 .f32) (main_arg2 : FVec F S4096x1024 .f32) (main_arg3 : FVec F S2048x32x128 .f32) (main_arg4 : FVec F S2048x32x128 .f32) : IVec S512x1024 1 × IVec S1024x4096 1 × IVec S2048x32x128 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S2048x32x128 .f32 := Host.absf main_arg3
  let main_cst_1 : FVec F S_ .f32 := constant S_ .f32 0x7F800000#32
  let main_v7 : FVec F S2048x32x128 .f32 := broadcastInDim S2048x32x128 ![] bcast_S_S2048x32x128 main_cst_1
  let main_v8 : IVec S2048x32x128 1 := cmpf .olt main_v6 main_v7
  (main_v2, main_v5, main_v8)
-- ==== Kernel.lean ====
abbrev S512x1024 : Shape := ⟨2, ![512, 1024]⟩
abbrev S1024x1024 : Shape := ⟨2, ![1024, 1024]⟩
abbrev S2048x32x128 : Shape := ⟨3, ![2048, 32, 128]⟩
abbrev S8x2048x128 : Shape := ⟨3, ![8, 2048, 128]⟩
abbrev S2x512x1024 : Shape := ⟨3, ![2, 512, 1024]⟩
abbrev S8 : Shape := ⟨1, ![8]⟩
abbrev S2x4 : Shape := ⟨2, ![2, 4]⟩
abbrev S_ : Shape := ⟨0, ![]⟩
abbrev S1 : Shape := ⟨1, ![1]⟩
abbrev S1x2048x128 : Shape := ⟨3, ![1, 2048, 128]⟩
abbrev S2048x128 : Shape := ⟨2, ![2048, 128]⟩
abbrev S2048x1x128 : Shape := ⟨3, ![2048, 1, 128]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S128x1024 : Shape := ⟨2, ![128, 1024]⟩
abbrev S1x1 : Shape := ⟨2, ![1, 1]⟩
abbrev S1x128x1024 : Shape := ⟨3, ![1, 128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S2048x32x128, .f32⟩
  | .hbm, ⟨4, _⟩ => ⟨S2048x32x128, .f32⟩
  | .hbm, ⟨5, _⟩ => ⟨S512x1024, .f32⟩
  | .local _ .vmem, ⟨0, _⟩ => ⟨S512x1024, .f32⟩
  | .local _ .vmem, ⟨1, _⟩ => ⟨S1024x1024, .f32⟩
  | .local _ .vmem, ⟨2, _⟩ => ⟨S1024x1024, .f32⟩
  | .local _ .vmem, ⟨3, _⟩ => ⟨S512x1024, .f32⟩
  | .local _ .vmem, ⟨4, _⟩ => ⟨S8x2048x128, .f32⟩
  | .local _ .vmem, ⟨5, _⟩ => ⟨S8x2048x128, .f32⟩
  | .local _ .vmem, ⟨6, _⟩ => ⟨S8x2048x128, .bf16⟩
  | .local _ .vmem, ⟨7, _⟩ => ⟨S8x2048x128, .bf16⟩
  | .local _ .vmem, ⟨8, _⟩ => ⟨S512x1024, .bf16⟩
  | .local _ .vmem, ⟨9, _⟩ => ⟨S512x1024, .bf16⟩
  | .local _ .vmem, ⟨10, _⟩ => ⟨S2x512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_2 : BitVec 32 := 1#32
  let v7 : BitVec 32 := Scalar.muli v4 c1_i32_2
  let v8 : BitVec 32 := Scalar.addi c0_i32 v7
  v8.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_4 : BitVec 32 := 1#32
  let v9 : BitVec 32 := Scalar.muli v5 c1_i32_4
  let v10 : BitVec 32 := Scalar.addi c0_i32_5 v9
  v10.toNat
def k0_off1 (d0 : Dev nD) (c0_i32_6 : BitVec 32) : Fin 3 → Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v3 : BitVec 32 := Scalar.muli v2 c8_i32
  let v11 : BitVec 32 := Scalar.addi v3 c0_i32_6
  let c0_i32_13 : BitVec 32 := 0#32
  ![0, v11.toNat, 0]
def k0_dev3 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_388 : BitVec 32 := 1#32
  let v447 : BitVec 32 := Scalar.muli v4 c1_i32_388
  let v448 : BitVec 32 := Scalar.addi c0_i32_389 v447
  v448.toNat
def k0_dev4 (d0 : Dev nD) : Nat :=
  let c0_i32_476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_475 : BitVec 32 := 1#32
  let v575 : BitVec 32 := Scalar.muli v4 c1_i32_475
  let v576 : BitVec 32 := Scalar.addi c0_i32_476 v575
  v576.toNat
def k0_dev5 (d0 : Dev nD) : Nat :=
  let c0_i32_506 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_505 : BitVec 32 := 1#32
  let v602 : BitVec 32 := Scalar.muli v5 c1_i32_505
  let v603 : BitVec 32 := Scalar.addi c0_i32_506 v602
  v603.toNat
def k0_dev6 (d0 : Dev nD) : Nat :=
  let c0_i32_593 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_592 : BitVec 32 := 1#32
  let v730 : BitVec 32 := Scalar.muli v4 c1_i32_592
  let v731 : BitVec 32 := Scalar.addi c0_i32_593 v730
  v731.toNat
def k0_dev7 (d0 : Dev nD) : Nat :=
  let c0_i32_623 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_622 : BitVec 32 := 1#32
  let v757 : BitVec 32 := Scalar.muli v5 c1_i32_622
  let v758 : BitVec 32 := Scalar.addi c0_i32_623 v757
  v758.toNat
def k0_dev8 (d0 : Dev nD) : Nat :=
  let c0_i32_710 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_709 : BitVec 32 := 1#32
  let v885 : BitVec 32 := Scalar.muli v4 c1_i32_709
  let v886 : BitVec 32 := Scalar.addi c0_i32_710 v885
  v886.toNat
def k0_dev9 (d0 : Dev nD) : Nat :=
  let c0_i32_740 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_739 : BitVec 32 := 1#32
  let v912 : BitVec 32 := Scalar.muli v5 c1_i32_739
  let v913 : BitVec 32 := Scalar.addi c0_i32_740 v912
  v913.toNat
def k0_dev10 (d0 : Dev nD) : Nat :=
  let c0_i32_771 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_770 : BitVec 32 := 1#32
  let v939 : BitVec 32 := Scalar.muli v5 c1_i32_770
  let v940 : BitVec 32 := Scalar.addi c0_i32_771 v939
  v940.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x1024 : Shape := ⟨2, ![512, 1024]⟩
abbrev S1024x4096 : Shape := ⟨2, ![1024, 4096]⟩
abbrev S4096x1024 : Shape := ⟨2, ![4096, 1024]⟩
abbrev S2048x32x128 : Shape := ⟨3, ![2048, 32, 128]⟩
abbrev S512x4096 : Shape := ⟨2, ![512, 4096]⟩
abbrev S512x32x128 : Shape := ⟨3, ![512, 32, 128]⟩
abbrev S_ : Shape := ⟨0, ![]⟩
abbrev S32x512x1 : Shape := ⟨3, ![32, 512, 1]⟩
abbrev S1024x32x128 : Shape := ⟨3, ![1024, 32, 128]⟩
abbrev S32x512x1024 : Shape := ⟨3, ![32, 512, 1024]⟩
abbrev S32x512 : Shape := ⟨2, ![32, 512]⟩
abbrev S512x32x1 : Shape := ⟨3, ![512, 32, 1]⟩
abbrev S32x128x512 : Shape := ⟨3, ![32, 128, 512]⟩

abbrev nBuf : Space → Nat
  | .hbm => 70
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x4096, .f32⟩
  | .hbm, ⟨2, _⟩ => ⟨S4096x1024, .f32⟩
  | .hbm, ⟨3, _⟩ => ⟨S2048x32x128, .f32⟩
  | .hbm, ⟨4, _⟩ => ⟨S2048x32x128, .f32⟩
  | .hbm, ⟨5, _⟩ => ⟨S512x4096, .f32⟩
  | .hbm, ⟨6, _⟩ => ⟨S512x32x128, .f32⟩
  | .hbm, ⟨7, _⟩ => ⟨S_, .f32⟩
  | .hbm, ⟨8, _⟩ => ⟨S512x32x128, .f32⟩
  | .hbm, ⟨9, _⟩ => ⟨S_, .f32⟩
  | .hbm, ⟨10, _⟩ => ⟨S32x512x1, .f32⟩
  | .hbm, ⟨11, _⟩ => ⟨S_, .f32⟩
  | .hbm, ⟨12, _⟩ => ⟨S32x512x1, .f32⟩
  | .hbm, ⟨13, _⟩ => ⟨S1024x32x128, .f32⟩
  | .hbm, ⟨14, _⟩ => ⟨S1024x32x128, .f32⟩
  | .hbm, ⟨15, _⟩ => ⟨S32x512x1024, .f32⟩
  | .hbm, ⟨16, _⟩ => ⟨S_, .f32⟩
  | .hbm, ⟨17, _⟩ => ⟨S32x512x1024, .f32⟩
  | .hbm, ⟨18, _⟩ => ⟨S32x512x1024, .f32⟩
  | .hbm, ⟨19, _⟩ => ⟨S_, .f32⟩
  | .hbm, ⟨20, _⟩ => ⟨S32x512, .f32⟩
  | .hbm, ⟨21, _⟩ => ⟨S32x512x1, .f32⟩
  | .hbm, ⟨22, _⟩ => ⟨S32x512x1, .f32⟩
  | .hbm, ⟨23, _⟩ => ⟨S32x512x1, .f32⟩
  | .hbm, ⟨24, _⟩ => ⟨S32x512x1, .f32⟩
  | .hbm, ⟨25, _⟩ => ⟨S32x512x1024, .f32⟩
  | .hbm, ⟨26, _⟩ => ⟨S32x512x1024, .f32⟩
  | .hbm, ⟨27, _⟩ => ⟨S32x512x1024, .f32⟩
  | .hbm, ⟨28, _⟩ => ⟨S32x512x1, .f32⟩
  | .hbm, ⟨29, _⟩ => ⟨S_, .f32⟩
  | .hbm, ⟨30, _⟩ => ⟨S32x512, .f32⟩
  | .hbm, ⟨31, _⟩ => ⟨S32x512x1, .f32⟩
  | .hbm, ⟨32, _⟩ => ⟨S32x512x1, .f32⟩
  | .hbm, ⟨33, _⟩ => ⟨S512x32x1, .f32⟩
  | .hbm, ⟨34, _⟩ => ⟨S512x32x128, .f32⟩
  | .hbm, ⟨35, _⟩ => ⟨S512x32x128, .f32⟩
  | .hbm, ⟨36, _⟩ => ⟨S32x128x512, .f32⟩
  | .hbm, ⟨37, _⟩ => ⟨S512x32x128, .f32⟩
  | .hbm, ⟨38, _⟩ => ⟨S512x32x128, .f32⟩
  | .hbm, ⟨39, _⟩ => ⟨S1024x32x128, .f32⟩
  | .hbm, ⟨40, _⟩ => ⟨S1024x32x128, .f32⟩
  | .hbm, ⟨41, _⟩ => ⟨S32x512x1024, .f32⟩
  | .hbm, ⟨42, _⟩ => ⟨S_, .f32⟩
  | .hbm, ⟨43, _⟩ => ⟨S32x512x1024, .f32⟩
  | .hbm, ⟨44, _⟩ => ⟨S32x512x1024, .f32⟩
  | .hbm, ⟨45, _⟩ => ⟨S_, .f32⟩
  | .hbm, ⟨46, _⟩ => ⟨S32x512, .f32⟩
  | .hbm, ⟨47, _⟩ => ⟨S32x512x1, .f32⟩
  | .hbm, ⟨48, _⟩ => ⟨S32x512x1, .f32⟩
  | .hbm, ⟨49, _⟩ => ⟨S32x512x1, .f32⟩
  | .hbm, ⟨50, _⟩ => ⟨S32x512x1, .f32⟩
  | .hbm, ⟨51, _⟩ => ⟨S32x512x1024, .f32⟩
  | .hbm, ⟨52, _⟩ => ⟨S32x512x1024, .f32⟩
  | .hbm, ⟨53, _⟩ => ⟨S32x512x1024, .f32⟩
  | .hbm, ⟨54, _⟩ => ⟨S32x512x1, .f32⟩
  | .hbm, ⟨55, _⟩ => ⟨S_, .f32⟩
  | .hbm, ⟨56, _⟩ => ⟨S32x512, .f32⟩
  | .hbm, ⟨57, _⟩ => ⟨S32x512x1, .f32⟩
  | .hbm, ⟨58, _⟩ => ⟨S32x512x1, .f32⟩
  | .hbm, ⟨59, _⟩ => ⟨S512x32x1, .f32⟩
  | .hbm, ⟨60, _⟩ => ⟨S512x32x128, .f32⟩
  | .hbm, ⟨61, _⟩ => ⟨S512x32x128, .f32⟩
  | .hbm, ⟨62, _⟩ => ⟨S32x128x512, .f32⟩
  | .hbm, ⟨63, _⟩ => ⟨S512x32x128, .f32⟩
  | .hbm, ⟨64, _⟩ => ⟨S512x32x128, .f32⟩
  | .hbm, ⟨65, _⟩ => ⟨S512x32x1, .f32⟩
  | .hbm, ⟨66, _⟩ => ⟨S512x32x128, .f32⟩
  | .hbm, ⟨67, _⟩ => ⟨S512x32x128, .f32⟩
  | .hbm, ⟨68, _⟩ => ⟨S512x4096, .f32⟩
  | .hbm, ⟨69, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.KernelIdeal.Chunk.lean ====
/-
# What one block of the kernel computes

The kernel handles its 512 query rows in four chunks of 128 rows. For a chunk `k` and each of the device's eight
heads `h` it takes the 128 × 128 block of the scaled queries, forms the scores against all 2048 keys, exponentiates them
(no maximum is subtracted), multiplies by the values and divides by the row sums; the eight head blocks side by side are
multiplied by the device's 1024 rows of the output matrix. This module names those blocks and, from them, what each
device sends, receives and returns. It is stated at any float instance.
-/
module

public import proofs.«01_k».proof.Proof.Gen.KernelIdeal
public import proofs.«01_k».proof.Proof.Gen.KernelIdeal.Skeleton
public import Idealize.ShloMosaic.Lib.Pointwise.Index

@[expose] public section

noncomputable section

namespace Cert.KernelIdealProof

open Cert.KernelIdeal Cert.KernelIdeal.Gen

open Idealize.ShloMosaic Idealize.ShloMosaic.TcCoe
open Idealize.SL Idealize.SL.Sem

variable {F : FTy → Type} [FloatOps F]

/-! ## The two partners of a device -/

/-- The partner of the first exchange: device `c` with its lowest bit flipped. -/
def p1 (c : Dev nD) : Dev nD := ⟨c.val + 1 - 2 * (c.val % 2), by have h : c.val < 4 := c.isLt; show _ < 4; omega⟩
/-- The partner of the second exchange: device `3 - c`. -/
def p2 (c : Dev nD) : Dev nD := ⟨3 - c.val, by show _ < 4; omega⟩

theorem p1_p1 (c : Dev nD) : p1 (p1 c) = c := by revert c; decide
theorem p2_p2 (c : Dev nD) : p2 (p2 c) = c := by revert c; decide

/-! ## One head of one chunk -/

theorem slices_at : ∀ (k : Fin 4) (h : Fin 8), S512x1024.Slices ![128 * k.val, 128 * h.val] S128x128 := by decide

/-- The exponentials of the scores of chunk `k`'s queries at head `h` against the keys `kh`. -/
def expo (q : FVec F S512x1024 .bf16) (kh : Vec F S1x2048x128 .bf16) (k : Fin 4) (h : Fin 8) : FVec F S128x2048 .f32 :=
  exp (matmul dot_S128x128_S2048x128_S128x2048_1_1_0_0_n_n none
    (extractStridedSlice S128x128 ![128 * k.val, 128 * h.val] q (slices_at k h))
    (shapeCast S2048x128 kh shapeCasts_S1x2048x128_S2048x128) (constant S128x2048 .f32 0x00000000#32))

/-- The attention output of chunk `k` at head `h`: the exponentials times the values, over the row sums. -/
def headOut (q : FVec F S512x1024 .bf16) (kh vh : Vec F S1x2048x128 .bf16) (k : Fin 4) (h : Fin 8) : FVec F S128x128 .bf16 :=
  truncf .bf16 (divf
    (matmul dot_S128x2048_S2048x128_S128x128_1_0_0_1_n_n none (truncf .bf16 (expo q kh k h) bitsLt_bf16_f32)
      (shapeCast S2048x128 vh shapeCasts_S1x2048x128_S2048x128) (constant S128x128 .f32 0x00000000#32))
    (broadcastTo S128x128 (shapeCast S128x1
      (multiReduction .add [1] S128 (expo q kh k h) 0x00000000#32 reduces_S128x2048_S128 (.inl rfl) rfl) shapeCasts_S128_S128x1)
      broadcasts_S128x1_S128x128)) bitsLt_bf16_f32

/-- The eight head blocks of a chunk side by side, times the device's rows of the output matrix. -/
def project (o : Fin 8 → FVec F S128x128 .bf16) (wo : FVec F S1024x1024 .bf16) : FVec F S128x1024 .f32 :=
  matmul dot_S128x1024_S1024x1024_S128x1024_1_0_0_1_n_n none
    (concatenate S128x1024 1 [⟨S128x128, o 0⟩, ⟨S128x128, o 1⟩, ⟨S128x128, o 2⟩, ⟨S128x128, o 3⟩, ⟨S128x128, o 4⟩, ⟨S128x128, o 5⟩,
      ⟨S128x128, o 6⟩, ⟨S128x128, o 7⟩] concatenates_S128x128_S128x128_S128x128_S128x128_S128x128_S128x128_S128x128_S128x128_S128x1024_d1)
    wo (constant S128x1024 .f32 0x00000000#32)

/-! ## The keys and values a device holds -/

/-- Heads `8 c … 8 c + 7` of a key or value array, one head after another, rounded to bf16. -/
def heads (c : Dev nD) (A : Vec F S2048x32x128 .f32) : FVec F S8x2048x128 .bf16 :=
  truncf .bf16 (fun i => A (ix3 (n0 := 2048) (n1 := 32) (n2 := 128) (i 1)
    ⟨8 * c.val + (i 0).val, by have h : c.val < 4 := c.isLt; have := (i 0).isLt; simp only [S8x2048x128] at this; dsimp at this; omega⟩ (i 2))) bitsLt_bf16_f32

/-- Head `h` of such an array, as the 1 × 2048 × 128 block that a load of it yields. -/
def headAt (B : Vec F S8x2048x128 .bf16) (h : Fin 8) : Vec F S1x2048x128 .bf16 :=
  fun i => B (ix3 (n0 := 8) (n1 := 2048) (n2 := 128) h (i 1) (i 2))

/-! ## What each device computes, sends and returns -/

/-- The five arrays of every device. -/
structure Inputs (F : FTy → Type) where
  x : Dev nD → Vec F S512x1024 .f32
  wq : Dev nD → Vec F S1024x1024 .f32
  wo : Dev nD → Vec F S1024x1024 .f32
  key : Dev nD → Vec F S2048x32x128 .f32
  val : Dev nD → Vec F S2048x32x128 .f32

variable (I : Inputs F)

/-- Device `c`'s own contribution to chunk `k`. -/
def part (c : Dev nD) (k : Fin 4) : FVec F S128x1024 .f32 :=
  project (fun h => headOut (k0_pay1 (I.x c) (I.wq c)) (headAt (heads c (I.key c)) h) (headAt (heads c (I.val c)) h) k h) (k0_pay2 (I.wo c))

/-- A block of f32 plus a received block of bf16. -/
def plus (a : FVec F S128x1024 .f32) (b : FVec F S128x1024 .bf16) : FVec F S128x1024 .f32 := addf a (extf .f32 b bitsLt_bf16_f32)

/-- A block rounded for sending. -/
def rnd (a : FVec F S128x1024 .f32) : FVec F S128x1024 .bf16 := truncf .bf16 a bitsLt_bf16_f32

/-- Chunk `k` on device `c` after the first exchange. -/
def pair (c : Dev nD) (k : Fin 4) : FVec F S128x1024 .f32 := plus (part I c k) (rnd (part I (p1 c) k))

/-- Chunk `k` on device `c` after the second exchange: what the kernel returns. -/
def total (c : Dev nD) (k : Fin 4) : FVec F S128x1024 .f32 := plus (pair I c k) (rnd (pair I (p2 c) k))

/-- Four chunks of 128 rows, one above the other. -/
def stack {φ : FTy} (f : Fin 4 → FVec F S128x1024 φ) : FVec F S512x1024 φ := fun i =>
  f ⟨(i 0).val / 128, by have := (i 0).isLt; simp only [S512x1024] at this; dsimp at this; omega⟩
    (ix2 (n0 := 128) (n1 := 1024) ⟨(i 0).val % 128, Nat.mod_lt _ (by decide)⟩ (i 1))

/-- The array device `c` returns. -/
def result (c : Dev nD) : FVec F S512x1024 .f32 := stack fun k => total I c k

end Cert.KernelIdealProof

end
-- ==== Proof.KernelIdeal.Proto.lean ====
/-
# The exchange: who waits, who signals, who copies, and what each landing hands over

Four devices; `p1 c` and `p2 c` are the partners of the two exchanges. Of each device's semaphores take part:

* the barrier semaphore: both partners signal it by one, the device waits for two. The signal of `p1 c` hands over the
  four chunks of `p1 c`'s landing buffer for the first exchange, that of `p2 c` those for the second;
* for each exchange `s` and chunk `k` a send and a receive semaphore. The copy of a chunk credits the sender's send
  semaphore (handing the chunk of the send buffer back) and the partner's receive semaphore (handing over the chunk of
  the landing buffer, now holding the partner's rounded contribution, or its rounded pair sum).

Every semaphore is waited for once, so one round each. A device pays its ten debts in the order of `pays`; each of its
own waits on a barrier or receive semaphore happens while all that is still unpaid lies later in that order.
-/
module

public import proofs.«01_k».proof.Proof.KernelIdeal.Chunk
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's, the exchange's, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance

abbrev 𝒱₀ : Variants := Variants.none

/-! ## The buffers and their chunks -/

abbrev xM : Memref sig .tc .vmem S512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S512x1024 .f32 := Memref.whole cc0_stg3_0
abbrev keyM : Memref sig .tc .hbm S2048x32x128 .f32 := Memref.whole main_arg3
abbrev valM : Memref sig .tc .hbm S2048x32x128 .f32 := Memref.whole main_arg4
abbrev kbufM : Memref sig .tc .vmem S8x2048x128 .f32 := Memref.whole cc0_scratch0
abbrev vbufM : Memref sig .tc .vmem S8x2048x128 .f32 := Memref.whole cc0_scratch1
abbrev kbM : Memref sig .tc .vmem S8x2048x128 .bf16 := Memref.whole cc0_scratch2
abbrev vbM : Memref sig .tc .vmem S8x2048x128 .bf16 := Memref.whole cc0_scratch3
abbrev landM : Memref sig .tc .vmem S2x512x1024 .bf16 := Memref.whole cc0_scratch6

/-- The send buffer of exchange `s`. -/
abbrev sendM : Fin 2 → Memref sig .tc .vmem S512x1024 .bf16
  | 0 => Memref.whole cc0_scratch4
  | 1 => Memref.whole cc0_scratch5

theorem inb_row : ∀ (k : Fin 4) (a : Fin 2), (![128 * k.val, 0] : Fin 2 → Nat) a + S128x1024.size a ≤ S512x1024.size a := by decide
theorem inb_slab : ∀ (s : Fin 2) (k : Fin 4) (a : Fin 3), (![s.val, 128 * k.val, 0] : Fin 3 → Nat) a + S1x128x1024.size a ≤ S2x512x1024.size a := by decide
theorem inb_sem : ∀ (s : Fin 2) (k : Fin 4) (a : Fin 2), (![s.val, k.val] : Fin 2 → Nat) a + S1x1.size a ≤ S2x4.size a := by decide

/-- Rows `128 k … 128 k + 127`. -/
abbrev rowR (k : Fin 4) : Rect S512x1024 := Rect.unit (s := S512x1024) ![128 * k.val, 0] S128x1024.size (inb_row k)
/-- Those rows of exchange `s` in the landing buffer. -/
abbrev slabR (s : Fin 2) (k : Fin 4) : Rect S2x512x1024 := Rect.unit (s := S2x512x1024) ![s.val, 128 * k.val, 0] S1x128x1024.size (inb_slab s k)

/-- Chunk `k` of the result, -/
abbrev outAt (k : Fin 4) : Memref sig .tc .vmem S128x1024 .f32 := outM.slice (rowR k) (fun _ => rfl)
/-- of the send buffer of exchange `s`, -/
abbrev sendAt (s : Fin 2) (k : Fin 4) : Memref sig .tc .vmem S128x1024 .bf16 := (sendM s).slice (rowR k) (fun _ => rfl)
/-- and of the landing buffer. -/
abbrev landAt (s : Fin 2) (k : Fin 4) : Memref sig .tc .vmem S128x1024 .bf16 := (landM.slice (slabR s k) (fun _ => rfl)).squeeze S128x1024 squeezes_S1x128x1024_S128x1024

/-! ## The semaphores -/

abbrev barS : Sem sig := (SemArray.scalar (sig.barrier 0 rfl) : Sems sig S_).sem
abbrev sendS (s : Fin 2) (k : Fin 4) : DmaSem sig := ((cc0_scratch9.slice (Rect.unit (s := S2x4) ![s.val, k.val] S1x1.size (inb_sem s k))).squeeze S_ squeezes_S1x1_S_).sem
abbrev recvS (s : Fin 2) (k : Fin 4) : DmaSem sig := ((cc0_scratch10.slice (Rect.unit (s := S2x4) ![s.val, k.val] S1x1.size (inb_sem s k))).squeeze S_ squeezes_S1x1_S_).sem

theorem sendS_val : ∀ (s : Fin 2) (k : Fin 4), (sendS s k).val = 20 + 4 * s.val + k.val := by decide
theorem recvS_val : ∀ (s : Fin 2) (k : Fin 4), (recvS s k).val = 28 + 4 * s.val + k.val := by decide

abbrev barCell (c : Dev nD) : GSem nD τ sig := ((c : Thread nD τ), .reg barS)
abbrev sendCell (c : Dev nD) (s : Fin 2) (k : Fin 4) : GSem nD τ sig := ((c : Thread nD τ), .dma (sendS s k))
abbrev recvCell (c : Dev nD) (s : Fin 2) (k : Fin 4) : GSem nD τ sig := ((c : Thread nD τ), .dma (recvS s k))

/-- The partner of exchange `s`. -/
def peer (c : Dev nD) (s : Fin 2) : Dev nD := if s = 0 then p1 c else p2 c
theorem peer_peer (c : Dev nD) (s : Fin 2) : peer (peer c s) s = c := by revert c s; decide

/-- What one chunk's copy credits. -/
@[irreducible] def N : ℕ := (landAt 0 0).view.dmaCredit
theorem N_pos : 0 < N := by unfold N; exact View.dmaCredit_pos _ (by decide)
theorem credit_land (s : Fin 2) (k : Fin 4) : (landAt s k).view.dmaCredit = N := by unfold N; rfl
theorem credit_send (s : Fin 2) (k : Fin 4) : (sendAt s k).view.dmaCredit = N := by unfold N; match s with | 0 => rfl | 1 => rfl

/-- The exchange and the chunk that a send or receive semaphore serves. -/
def slot (q : ℕ) : Fin 2 × Fin 4 := (⟨q / 4 % 2, Nat.mod_lt _ (by decide)⟩, ⟨q % 4, Nat.mod_lt _ (by decide)⟩)
theorem slot_send : ∀ (s : Fin 2) (k : Fin 4), slot ((sendS s k).val - 20) = (s, k) := by decide
theorem slot_recv : ∀ (s : Fin 2) (k : Fin 4), slot ((recvS s k).val - 28) = (s, k) := by decide

/-! ## The contents handed over -/

variable (I : Inputs F)

/-- What device `c` sends in exchange `s` for chunk `k`. -/
def wire (c : Dev nD) (s : Fin 2) (k : Fin 4) : FVec F S128x1024 .bf16 := if s = 0 then rnd (part I c k) else rnd (pair I c k)

/-- The signal of a partner `e` of exchange `s`: its landing buffer's chunks for that exchange. -/
def barPay (e : Dev nD) (s : Fin 2) : sProp 𝕄 := bigSep Finset.univ fun k : Fin 4 => iprop(∃ X, owns (e : Thread nD τ) (landAt s k) fullShare X)
/-- A chunk landed. -/
def recvPay (c : Dev nD) (s : Fin 2) (k : Fin 4) : sProp 𝕄 := owns (c : Thread nD τ) (landAt s k) fullShare (wire I (peer c s) s k)
/-- A chunk of the send buffer given back. -/
def sendPay (c : Dev nD) (s : Fin 2) (k : Fin 4) : sProp 𝕄 := iprop(∃ X, owns (c : Thread nD τ) (sendAt s k) fullShare X)

/-- The exchange of a barrier duty: `false` is the first partner's signal, `true` the second's. -/
def dutyOf (s : Fin 2) : Bool := s = 1
def exchOf (d : Bool) : Fin 2 := if d then 1 else 0

/-- The schedule: one round of every semaphore of the exchange. -/
def sched : Rounds.Schedule (GSem nD τ sig) Bool 𝕄 where
  duties g r := if r = 0 ∧ g.1.2 = .tc then (match g.2 with | .reg _ => Finset.univ | .dma q => if 20 ≤ q.val then {false} else ∅) else ∅
  unitless _ := False
  amount g _ _ := match g.2 with | .reg _ => 1 | .dma _ => N
  payload g _ d := match g.2 with
    | .reg _ => barPay (peer g.1.1 (exchOf d)) (exchOf d)
    | .dma q => if 28 ≤ q.val then recvPay I g.1.1 (slot (q.val - 28)).1 (slot (q.val - 28)).2
        else sendPay g.1.1 (slot (q.val - 20)).1 (slot (q.val - 20)).2
  amount_pos g _ _ _ := by
    rcases g with ⟨c, _ | _⟩
    · exact Nat.one_pos
    · exact N_pos

instance sched_storable (g : GSem nD τ sig) (r : ℕ) (d : Bool) : BI.Storable (upEmb : UEmb _ 𝕄) ((sched I).payload g r d) := by
  rcases g with ⟨c, q | q⟩
  · show BI.Storable upEmb (barPay _ _); unfold barPay; infer_instance
  · show BI.Storable upEmb (if 28 ≤ q.val then recvPay I _ _ _ else sendPay _ _ _)
    unfold recvPay sendPay; split <;> infer_instance

section Tables

variable (c : Dev nD) (s : Fin 2) (k : Fin 4)

theorem duties_bar : (sched I).duties (barCell c) 0 = Finset.univ := rfl
theorem duties_send : (sched I).duties (sendCell c s k) 0 = {false} := by
  show (if 20 ≤ (sendS s k).val then ({false} : Finset Bool) else ∅) = _
  rw [sendS_val, if_pos (by omega)]
theorem duties_recv : (sched I).duties (recvCell c s k) 0 = {false} := by
  show (if 20 ≤ (recvS s k).val then ({false} : Finset Bool) else ∅) = _
  rw [recvS_val, if_pos (by omega)]
theorem duties_later (g : GSem nD τ sig) : ∀ r, 1 ≤ r → (sched I).duties g r = ∅ :=
  fun r hr => by dsimp only [sched]; exact if_neg fun h => by omega

theorem amount_bar (d : Bool) : (sched I).amount (barCell c) 0 d = 1 := rfl
theorem amount_send (d : Bool) : (sched I).amount (sendCell c s k) 0 d = N := rfl
theorem amount_recv (d : Bool) : (sched I).amount (recvCell c s k) 0 d = N := rfl

theorem expect_bar : (sched I).expect (barCell c) 0 = 2 := by
  unfold Schedule.expect Schedule.amountOf; rw [duties_bar, Fintype.sum_bool, amount_bar, amount_bar]
theorem expect_send : (sched I).expect (sendCell c s k) 0 = N := by
  unfold Schedule.expect Schedule.amountOf; rw [duties_send, Finset.sum_singleton, amount_send]
theorem expect_recv : (sched I).expect (recvCell c s k) 0 = N := by
  unfold Schedule.expect Schedule.amountOf; rw [duties_recv, Finset.sum_singleton, amount_recv]

theorem payload_bar : (sched I).payload (barCell c) 0 (dutyOf s) = barPay (peer c s) s := by
  show barPay (peer c (exchOf (dutyOf s))) (exchOf (dutyOf s)) = _
  rw [show exchOf (dutyOf s) = s from by revert s; decide]
theorem payload_send (d : Bool) : (sched I).payload (sendCell c s k) 0 d = sendPay c s k := by
  show (if 28 ≤ (sendS s k).val then recvPay I c _ _ else sendPay c (slot ((sendS s k).val - 20)).1 (slot ((sendS s k).val - 20)).2) = _
  rw [slot_send, sendS_val, if_neg (by have := s.isLt; have := k.isLt; omega)]
theorem payload_recv (d : Bool) : (sched I).payload (recvCell c s k) 0 d = recvPay I c s k := by
  show (if 28 ≤ (recvS s k).val then recvPay I c (slot ((recvS s k).val - 28)).1 (slot ((recvS s k).val - 28)).2 else sendPay c _ _) = _
  rw [slot_recv, recvS_val, if_pos (by omega)]

theorem rest_bar : bigSep ((sched I).duties (barCell c) 0 \ ∅) (fun d => (sched I).payload (barCell c) 0 d) = iprop(barPay (p1 c) 0 ∗ barPay (p2 c) 1) := by
  rw [Finset.sdiff_empty, duties_bar, bigSep_univ_eq_bigSepL [false, true] (by decide) (by decide)]
  show iprop((sched I).payload (barCell c) 0 (dutyOf 0) ∗ (sched I).payload (barCell c) 0 (dutyOf 1)) = _
  rw [payload_bar, payload_bar]; rfl
theorem rest_send : bigSep ((sched I).duties (sendCell c s k) 0 \ ∅) (fun d => (sched I).payload (sendCell c s k) 0 d) = sendPay c s k := by
  rw [Finset.sdiff_empty, duties_send, bigSep_singleton, payload_send]
theorem rest_recv : bigSep ((sched I).duties (recvCell c s k) 0 \ ∅) (fun d => (sched I).payload (recvCell c s k) 0 d) = recvPay I c s k := by
  rw [Finset.sdiff_empty, duties_recv, bigSep_singleton, payload_recv]

end Tables

/-! ## The debts of a device, in the order it pays them -/

/-- The cells device `c` credits on its partners, with the amounts, in the order of the kernel's text. -/
def pays (c : Dev nD) : List (GSem nD τ sig × ℕ) :=
  [(barCell (p1 c), 1), (barCell (p2 c), 1), (recvCell (p1 c) 0 0, N), (recvCell (p1 c) 0 1, N), (recvCell (p2 c) 1 0, N), (recvCell (p1 c) 0 2, N),
   (recvCell (p2 c) 1 1, N), (recvCell (p1 c) 0 3, N), (recvCell (p2 c) 1 2, N), (recvCell (p2 c) 1 3, N)]

/-- What is left of a list of debts, as the tally a core owes. -/
def tallies (l : List (GSem nD τ sig × ℕ)) : CellTallies nD τ sig Unit := l.foldr (fun p O => O + tallyAt p.1 () p.2) 0

/-- What device `c` still owes once it has paid the first `n`. -/
def debt (c : Dev nD) (n : ℕ) : CellTallies nD τ sig Unit := tallies ((pays c).drop n)

/-- The levels: the barrier's 1, a receive semaphore's its place among the payments, all others 0. -/
def level (g : SemLoc sig) : ℕ := match g with | .reg _ => 1 | .dma q => if 28 ≤ q.val then (if q.val = 28 then 2 else if q.val = 29 then 3 else if q.val = 30 then 5
  else if q.val = 31 then 7 else if q.val = 32 then 4 else if q.val = 33 then 6 else if q.val = 34 then 8 else 9) else 0
def L (g : GSem nD τ sig) : Finset Unit := if g.1.2 = .tc then {()} else ∅
def lv (g : GSem nD τ sig) (_ : Unit) : ℕ := level g.2
theorem L_of_ne (g : GSem nD τ sig) (h : g.1.2 ≠ .tc) : L g = ∅ := if_neg h
theorem L_tc (c : Dev nD) (sm : SemLoc sig) : L ((c : Thread nD τ), sm) = {()} := if_pos rfl

theorem tallies_pos {l : List (GSem nD τ sig × ℕ)} {g : GSem nD τ sig} {u : Unit} (h : 0 < tallies l g u) : ∃ p ∈ l, p.1 = g := by
  induction l with
  | nil => exact absurd h (Nat.lt_irrefl 0)
  | cons p l ih =>
    rw [show tallies (p :: l) = tallies l + tallyAt p.1 () p.2 from rfl, Pi.add_apply, Finsupp.add_apply, tallyAt_apply] at h
    by_cases hp : p.1 = g
    · exact ⟨p, List.mem_cons_self, hp⟩
    · rw [if_neg (fun h' => hp h'.1.symm), Nat.add_zero] at h
      obtain ⟨p', hp', he⟩ := ih h
      exact ⟨p', List.mem_cons_of_mem _ hp', he⟩

theorem pays_tc (c : Dev nD) : ∀ p ∈ pays c, p.1.1.2 = .tc := by
  intro p hp; simp only [pays, List.mem_cons, List.not_mem_nil, or_false] at hp
  rcases hp with rfl | rfl | rfl | rfl | rfl | rfl | rfl | rfl | rfl | rfl <;> rfl

/-- The levels of the payments, by place: 1, 1, 2, 3, …, 9. -/
theorem pays_level (c : Dev nD) : (pays c).map (fun p => level p.1.2) = [1, 1, 2, 3, 4, 5, 6, 7, 8, 9] := by
  simp only [pays, List.map_cons, List.map_nil, level, recvS_val]; rfl

/-- A core owing the debts from the `n`th on may wait on a semaphore whose level is below all of theirs. -/
theorem mayWait (c : Dev nD) (sm : SemLoc sig) (n : ℕ) (h : ∀ v ∈ ([1, 1, 2, 3, 4, 5, 6, 7, 8, 9] : List ℕ).drop n, level sm < v) :
    (levAts L lv : sProp 𝕄) ⊢ MayWait (c : Thread nD τ) sm () (debt c n) := by
  have hd : ∀ {g : GSem nD τ sig} {u : Unit}, 0 < debt c n g u → g.1.2 = .tc ∧ level sm < level g.2 := fun {g u} hg => by
    obtain ⟨p, hp, rfl⟩ := tallies_pos hg
    refine ⟨pays_tc c p (List.mem_of_mem_drop hp), h _ ?_⟩
    rw [← pays_level c, ← List.map_drop]
    exact List.mem_map_of_mem hp
  exact MayOwe.of_cut (L := L) (lev := lv) (level sm) (fun p hp => by rw [Finset.mem_singleton.mp hp, L_tc]; exact Finset.mem_singleton_self _)
    (fun g u hg => by rw [L, if_pos (hd hg).1]; exact Finset.mem_singleton_self _)
    (fun p hp => by rw [Finset.mem_singleton.mp hp]; exact le_rfl)
    (fun g u hg => (hd hg).2)

end Cert.KernelIdealProof

end
-- ==== Proof.KernelIdeal.Steps.lean ====
/-
# The steps of the exchange

One lemma per kind of step, for any device, exchange and chunk: a signal to a partner's barrier semaphore, the wait for
both partners, the copy of a chunk into a partner's landing buffer, the wait for a chunk to land and the wait for a chunk
to have left; and the loads and stores of a chunk held as a window of its buffer.
-/
module

public import proofs.«01_k».proof.Proof.KernelIdeal.Proto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells of the exchange, and that all are open -/

/-- A device's cells: its barrier, and by exchange and chunk its send (`false`) and receive (`true`) semaphores. -/
abbrev Cl : Type := Option (Bool × Fin 2 × Fin 4)
abbrev csem : Cl → SemLoc sig
  | none => .reg barS
  | some (false, s, k) => .dma (sendS s k)
  | some (true, s, k) => .dma (recvS s k)
abbrev kcell (ck : Dev nD × Cl) : GSem nD τ sig := ((ck.1 : Thread nD τ), csem ck.2)

variable (I : Inputs F) (K : Dev nD × Cl → ℕ)

/-- All cells' invariants stand, and all are at their round. -/
def records : sProp 𝕄 :=
  iprop((bigSep Finset.univ fun ck : Dev nD × Cl => cellInv ER (sched I) (K ck) (kcell ck)) ∗ bigSep Finset.univ fun ck : Dev nD × Cl => reached ER (kcell ck) 0)
instance records_persistent : BI.Persistent (records I K) := by unfold records; infer_instance

theorem records_inv (ck : Dev nD × Cl) : records I K ⊢ cellInv ER (sched I) (K ck) (kcell ck) := by
  unfold records
  exact sep_elim_left.trans (bigSep_elim (Finset.mem_univ ck))
theorem records_reached (ck : Dev nD × Cl) : records I K ⊢ reached ER (kcell ck) 0 := by
  unfold records
  exact sep_elim_right.trans (bigSep_elim (Finset.mem_univ ck))

/-! ## Handshake -/

section Steps

variable (c : Dev nD)

/-- Signalling the partner of exchange `s`: the device's landing chunks for that exchange are handed over. -/
theorem wp_greet {α : Type} {Q : α → sProp 𝕄} {k' : PUnit → Prog (TpuEff nD τ sig (Elt F) Λ₀ .tc) α} (s : Fin 2) (d : Dev nD) (hd : d = peer c s) {a : ℕ} (ha : 1 = a) (W : Waits sig Unit) :
    iprop(records I K ∗ owes (c : Thread nD τ) (debt c s.val) W ∗ dutyTok ER (barCell (peer c s)) 0 (dutyOf s) ∗ barPay c s)
      ⊢ iprop((owes (c : Thread nD τ) (debt c (s.val + 1)) W -∗ wp frame (wpE (defs₀ (F := F)) 𝒱₀ (c : Thread nD τ) none) Set.univ (k' ⟨⟩) Q)
          -∗ wp frame (wpE (defs₀ (F := F)) 𝒱₀ (c : Thread nD τ) none) Set.univ (.op (.semSignal (d : Thread nD τ) barS a) k') Q) := by
  subst hd
  have hO : debt c s.val = debt c (s.val + 1) + tallyAt (barCell (peer c s)) () a := by
    subst ha; match s with | 0 => rfl | 1 => rfl
  iintro ⟨#HR, HO, Ht, Hp⟩
  iapply (Rounds.wp_signal 𝒱₀ ER (sched I) (c : Thread nD τ) none (dst := (peer c s : Thread nD τ)) (κ := K (peer c s, none)) (r := 0) (d := dutyOf s)
      (by rw [duties_bar]; exact Finset.mem_univ _) ((amount_bar I (peer c s) _).trans ha) () (debt c (s.val + 1)) hO) $$ [HO Ht Hp]
  isplitr; · iapply (records_inv I K (peer c s, none)); iexact HR
  isplitl [HO]; · iexact HO
  isplitl [Ht]; · iexact Ht
  isplitl [Hp]; · rw [payload_bar, peer_peer]; iexact Hp
  iapply (records_reached I K (peer c s, none)); iexact HR

/-- Waiting for both partners' signals: their landing chunks come with them. -/
theorem wp_met {α : Type} {Q : α → sProp 𝕄} {k' : PUnit → Prog (TpuEff nD τ sig (Elt F) Λ₀ .tc) α} {a : ℕ} (ha : 0 + a = 2) (W : Waits sig Unit) :
    iprop(records I K ∗ levAts L lv ∗ cred (tallyAt (barCell c) () a) ∗ owes (c : Thread nD τ) (debt c 2) W ∗ atPos ER (barCell c) 0 ∅ 0)
      ⊢ iprop(((owes (c : Thread nD τ) (debt c 2) (insert (SemLoc.reg barS, ()) W) ∗ atPos ER (barCell c) (0 + 1) ∅ 0 ∗ barPay (p1 c) 0 ∗ barPay (p2 c) 1)
            -∗ wp frame (wpE (defs₀ (F := F)) 𝒱₀ (c : Thread nD τ) none) Set.univ (k' ⟨⟩) Q)
          -∗ wp frame (wpE (defs₀ (F := F)) 𝒱₀ (c : Thread nD τ) none) Set.univ (.op (.semWait barS a) k') Q) := by
  iintro ⟨#HR, #Hl, Hc, HO, Ha⟩ Hk
  iapply (Rounds.wp_wait_rest_token 𝒱₀ ER (sched I) (c : Thread nD τ) none (κ := K (c, none))
      (wpE_semWait_eq 𝒱₀ (c : Thread nD τ) none Set.univ) (Set.mem_univ _) () (O := debt c 2) (W := W) (R := 0) (m := 0) (T := ∅)
      (by rw [expect_bar]; exact ha)) $$ [Hc HO Ha]
  · isplitr; · iapply (records_inv I K (c, none)); iexact HR
    isplitl [Hc]; · iexact Hc
    isplitl [HO]; · iexact HO
    isplitr; · iapply (mayWait c (.reg barS) 2 (by decide)); iexact Hl
    iexact Ha
  iintro ⟨HO, Ha, -, Hp⟩
  ihave Hp := (Entails.of_eq (rest_bar I c)) $$ Hp
  icases Hp with ⟨Hp1, Hp2⟩
  iapply Hk
  isplitl [HO]; · iexact HO
  isplitl [Ha]; · iexact Ha
  isplitl [Hp1] <;> iassumption

/-! ## The copies -/

theorem landed_payload (s : Fin 2) (k : Fin 4) (fs : Buf (Elt F) ((sendAt s k).view.loc (c : Thread nD τ))) (fd : Buf (Elt F) ((landAt s k).view.loc (peer c s : Thread nD τ)))
    (h : (sendAt s k).view.read (Elt F) fs = wire I c s k) :
    ((landAt s k).view.loc (peer c s : Thread nD τ) ↦[(landAt s k).view.set]{fullShare} ((landAt s k).view.write (Elt F) fd ((sendAt s k).view.read (Elt F) fs) Finset.univ) : sProp 𝕄)
      ⊢ recvPay I (peer c s) s k := by
  unfold recvPay
  rw [peer_peer]
  refine (owns_intro _ _ _ _).trans (Entails.of_eq ?_)
  rw [View.read_write_univ, h]

/-- Sending chunk `k` of exchange `s`, the `n`th debt. -/
theorem wp_give {α : Type} {Q : α → sProp 𝕄} {k' : PUnit → Prog (TpuEff nD τ sig (Elt F) Λ₀ .tc) α} (s : Fin 2) (k : Fin 4) (n : ℕ) (hn : debt c n = debt c (n + 1) + tallyAt (recvCell (peer c s) s k) () N) (d : Dev nD) (hd : d = peer c s)
    {hsc : (landAt s k : Memref sig (Dev.tc d : Thread nD τ).2.kind .vmem S128x1024 .bf16).view.ref.isScScratch = false}
    {hsrc : (sendAt s k).view.WordExact} {hdst : (landAt s k).view.WordExact}
    {hsem : DmaTarget.Typed .vmem (.dma (recvS s k)) (.remote (Dev.tc d : Thread nD τ) (landAt s k) (.dma (sendS s k)) hsc)} (W : Waits sig Unit) :
    iprop(records I K ∗ owns (c : Thread nD τ) (sendAt s k) fullShare (wire I c s k) ∗ (∃ X, owns (peer c s : Thread nD τ) (landAt s k) fullShare X)
        ∗ owes (c : Thread nD τ) (debt c n) W ∗ dutyTok ER (sendCell c s k) 0 false ∗ dutyTok ER (recvCell (peer c s) s k) 0 false)
      ⊢ iprop(((cred (tallyAt (sendCell c s k) () N) ∗ owes (c : Thread nD τ) (debt c (n + 1)) W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (sendAt s k) (.remote (Dev.tc d : Thread nD τ) (landAt s k) (.dma (sendS s k)) hsc) (.dma (recvS s k)) hsrc hdst hsem) k') Q) := by
  subst hd
  unfold owns
  iintro ⟨#HR, ⟨%fs, %hfs, Hs⟩, ⟨%X, %fd, -, Hd⟩, HO, Ht, Ht'⟩
  iapply (Rounds.wp_send_pointsTo 𝒱₀ ER (sched I) (c : Thread nD τ) none (κ₁ := K (c, some (false, s, k))) (κ₂ := K (peer c s, some (true, s, k)))
    (r₁ := 0) (r₂ := 0) (d₁ := false) (d₂ := false) (fs := fs) (fd := fd) (q := fullShare)
    (by rw [duties_send]; exact Finset.mem_singleton_self _) (by rw [duties_recv]; exact Finset.mem_singleton_self _)
    () () N (show (landAt s k).view.amount (.dma (recvS s k)) = N from credit_land s k) (amount_send I c s k false) (amount_recv I (peer c s) s k false) (debt c (n + 1)) hn (W := W)
    (by rw [payload_send]; unfold sendPay; iintro H; iexists _; iapply (owns_intro (c : Thread nD τ) (sendAt s k) fullShare fs); iexact H)
    (by rw [payload_recv]; exact landed_payload I c s k fs fd hfs)) $$ [Hs Hd HO Ht Ht']
  isplitr; · iapply (records_inv I K (c, some (false, s, k))); iexact HR
  isplitr; · iapply (records_inv I K (peer c s, some (true, s, k))); iexact HR
  isplitl [Hs]; · iexact Hs
  isplitl [Hd]; · iexact Hd
  isplitl [HO]; · iexact HO
  isplitl [Ht]; · iexact Ht
  isplitr; · iapply (records_reached I K (c, some (false, s, k))); iexact HR
  isplitl [Ht']; · iexact Ht'
  iapply (records_reached I K (peer c s, some (true, s, k))); iexact HR

/-- Waiting for chunk `k` of exchange `s` to land, owing the debts from the `n`th on. -/
theorem wp_land {α : Type} {Q : α → sProp 𝕄} {k' : PUnit → Prog (TpuEff nD τ sig (Elt F) Λ₀ .tc) α} (s : Fin 2) (k : Fin 4) (n : ℕ) (h : ∀ v ∈ ([1, 1, 2, 3, 4, 5, 6, 7, 8, 9] : List ℕ).drop n, level (.dma (recvS s k)) < v)
    {sp : Space} {s' : Shape} {e' : EltTy} {src : Memref sig .tc sp s' e'} {hsrc : src.view.WordExact} {hdst : (landAt s k).view.WordExact} (W : Waits sig Unit) :
    iprop(records I K ∗ levAts L lv ∗ cred (tallyAt (recvCell c s k) () N) ∗ owes (c : Thread nD τ) (debt c n) W ∗ atPos ER (recvCell c s k) 0 ∅ 0)
      ⊢ iprop(((owes (c : Thread nD τ) (debt c n) (insert (SemLoc.dma (recvS s k), ()) W) ∗ atPos ER (recvCell c s k) (0 + 1) ∅ 0
              ∗ owns (c : Thread nD τ) (landAt s k) fullShare (wire I (peer c s) s k))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (recvS s k) src (landAt s k) hsrc hdst) k') Q) := by
  iintro ⟨#HR, #Hl, Hc, HO, Ha⟩ Hk
  iapply (Rounds.wp_wait_rest_token 𝒱₀ ER (sched I) (c : Thread nD τ) none (κ := K (c, some (true, s, k)))
      (wpE_waitDma2_eq 𝒱₀ (c : Thread nD τ) none Set.univ) (Set.mem_univ _) () (O := debt c n) (W := W) (R := 0) (m := 0) (T := ∅)
      (by rw [Nat.zero_add, expect_recv]; exact credit_land s k)) $$ [Hc HO Ha]
  · isplitr; · iapply (records_inv I K (c, some (true, s, k))); iexact HR
    isplitl [Hc]; · rw [credit_land]; iexact Hc
    isplitl [HO]; · iexact HO
    isplitr; · iapply (mayWait c (.dma (recvS s k)) n h); iexact Hl
    iexact Ha
  iintro ⟨HO, Ha, -, Hp⟩
  ihave Hp := (Entails.of_eq (rest_recv I c s k)) $$ Hp
  iapply Hk
  isplitl [HO]; · iexact HO
  isplitl [Ha]; · iexact Ha
  unfold recvPay; iexact Hp

/-- Waiting, all debts paid, for chunk `k` of exchange `s` to have left. -/
theorem wp_left {α : Type} {Q : α → sProp 𝕄} {k' : PUnit → Prog (TpuEff nD τ sig (Elt F) Λ₀ .tc) α} (s : Fin 2) (k : Fin 4)
    {sp : Space} {s' : Shape} {e' : EltTy} {src : Memref sig .tc sp s' e'} {hsrc : src.view.WordExact} {hdst : (sendAt s k).view.WordExact} (W : Waits sig Unit) :
    iprop(records I K ∗ cred (tallyAt (sendCell c s k) () N) ∗ owes (c : Thread nD τ) (debt c 10) W ∗ atPos ER (sendCell c s k) 0 ∅ 0)
      ⊢ iprop(((owes (c : Thread nD τ) (debt c 10) (insert (SemLoc.dma (sendS s k), ()) W) ∗ atPos ER (sendCell c s k) (0 + 1) ∅ 0 ∗ sendPay c s k)
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 (sendS s k) src (sendAt s k) hsrc hdst) k') Q) := by
  iintro ⟨#HR, Hc, HO, Ha⟩ Hk
  iapply (Rounds.wp_wait_rest_token 𝒱₀ ER (sched I) (c : Thread nD τ) none (κ := K (c, some (false, s, k)))
      (wpE_waitDma2_eq 𝒱₀ (c : Thread nD τ) none Set.univ) (Set.mem_univ _) () (O := debt c 10) (W := W) (R := 0) (m := 0) (T := ∅)
      (by rw [Nat.zero_add, expect_send]; exact credit_send s k)) $$ [Hc HO Ha]
  · isplitr; · iapply (records_inv I K (c, some (false, s, k))); iexact HR
    isplitl [Hc]; · rw [credit_send]; iexact Hc
    isplitl [HO]; · iexact HO
    isplitr; · rw [show debt c 10 = 0 from rfl, MayWait_zero]; iempintro
    iexact Ha
  iintro ⟨HO, Ha, -, Hp⟩
  ihave Hp := (Entails.of_eq (rest_send I c s k)) $$ Hp
  iapply Hk
  isplitl [HO]; · iexact HO
  isplitl [Ha] <;> iassumption

/-- A cell whose one round is over closes: its counter, at zero, is the core's again. -/
theorem cell_done (ck : Cl) : iprop(records I K ∗ atPos ER (kcell (c, ck)) (0 + 1) ∅ 0) ⊢ |={Set.univ}=> (semVal (kcell (c, ck)) 0 : sProp 𝕄) := by
  iintro ⟨#HR, Ha⟩
  iapply (Rounds.cell_close ER (sched I) (Set.mem_univ (K (c, ck))) (fun h => h) (R := 0 + 1) (duties_later I (kcell (c, ck))))
  isplitr; · iapply (records_inv I K (c, ck)); iexact HR
  iexact Ha

end Steps

/-! ## Loads and stores of a window -/

section Windows

variable (c : Dev nD) {s : Shape} {e : EltTy} (M : Memref sig .tc .vmem s e)

/-- A load of a window held at contents `X` yields `X`. -/
theorem wp_peek (r : Rect s) (hr : ∀ a, r.stride a = 1) {hl : M.view.LoadsAt r.toLoadRect}
    {α : Type} {Q : α → sProp 𝕄} {k' : (r.shape.Idx → Elt F e) → Prog (TpuEff nD τ sig (Elt F) Λ₀ .tc) α}
    (X : r.shape.Idx → Elt F e) :
    owns (c : Thread nD τ) (M.slice r hr) fullShare X
      ⊢ iprop((owns (c : Thread nD τ) (M.slice r hr) fullShare X -∗ wp frame (wpE (defs₀ (F := F)) 𝒱₀ (c : Thread nD τ) none) Set.univ (k' X) Q)
          -∗ wp frame (wpE (defs₀ (F := F)) 𝒱₀ (c : Thread nD τ) none) Set.univ (.op (.load M r.toLoadRect hl) k') Q) := by
  unfold owns
  iintro ⟨%f, %hf, H⟩ Hk
  subst hf
  iapply (wp_load_rect 𝒱₀ (c : Thread nD τ) none Set.univ (m := M) (r := r) (subset_rfl)) $$ H
  iintro H
  iapply Hk
  iexists f
  isplitr; · ipureintro; rfl
  iexact H

/-- A store to a window held leaves it at what was stored. -/
theorem wp_put (r : Rect s) (hr : ∀ a, r.stride a = 1) (w : r.shape.Idx → Elt F e) {hx : (M.access r).Stores Finset.univ} {hm : (Finset.univ : Finset r.shape.Idx) = Finset.univ ∨ ∀ a, r.stride a = 1}
    {α : Type} {Q : α → sProp 𝕄} {k' : PUnit → Prog (TpuEff nD τ sig (Elt F) Λ₀ .tc) α} (X : r.shape.Idx → Elt F e) :
    owns (c : Thread nD τ) (M.slice r hr) fullShare X
      ⊢ iprop((owns (c : Thread nD τ) (M.slice r hr) fullShare w -∗ wp frame (wpE (defs₀ (F := F)) 𝒱₀ (c : Thread nD τ) none) Set.univ (k' ⟨⟩) Q)
          -∗ wp frame (wpE (defs₀ (F := F)) 𝒱₀ (c : Thread nD τ) none) Set.univ (.op (.store M r w Finset.univ hx hm) k') Q) := by
  unfold owns
  iintro ⟨%f, -, H⟩ Hk
  iapply (wp_store 𝒱₀ (c : Thread nD τ) none Set.univ (m := M) (r := r) (Mk := Finset.univ) (S := (M.slice r hr).view.set) subset_rfl) $$ H
  iintro H
  iapply Hk
  iexists _
  isplitr
  rotate_left
  · iexact H
  · ipureintro; exact View.read_write_univ _ _

end Windows

end Cert.KernelIdealProof

end
-- ==== Proof.KernelIdeal.Heads.lean ====
/-
# Fetching a head's keys and values

Head `h` of a device's keys and values is copied from the two arrays into slot `h` of two f32 buffers, all sixteen
copies being started before the first is waited for. The first chunk waits for a head's two copies, rounds the two blocks
to bf16 and keeps them in slot `h` of two bf16 buffers, from which this and the later chunks read them.
-/
module

public import proofs.«01_k».proof.Proof.KernelIdeal.Steps
public import proofs.«01_k».proof.Proof.Gen.KernelIdeal.Points
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The windows of a head -/

theorem inb_head : ∀ (h : Fin 8) (a : Fin 3), (![h.val, 0, 0] : Fin 3 → Nat) a + S1x2048x128.size a ≤ S8x2048x128.size a := by decide
theorem inb_at : ∀ (h : Fin 8) (a : Fin 1), (![h.val] : Fin 1 → Nat) a + S1.size a ≤ S8.size a := by decide

/-- Slot `h` of a buffer of eight heads. -/
abbrev headR (h : Fin 8) : Rect S8x2048x128 := Rect.unit (s := S8x2048x128) ![h.val, 0, 0] S1x2048x128.size (inb_head h)
abbrev kbufAt (h : Fin 8) : Memref sig .tc .vmem S2048x128 .f32 := (kbufM.slice (headR h) (fun _ => rfl)).squeeze S2048x128 squeezes_S1x2048x128_S2048x128
abbrev vbufAt (h : Fin 8) : Memref sig .tc .vmem S2048x128 .f32 := (vbufM.slice (headR h) (fun _ => rfl)).squeeze S2048x128 squeezes_S1x2048x128_S2048x128
/-- Slot `h` of the rounded keys and values. -/
abbrev kbAt (h : Fin 8) : Memref sig .tc .vmem S1x2048x128 .bf16 := kbM.slice (headR h) (fun _ => rfl)
abbrev vbAt (h : Fin 8) : Memref sig .tc .vmem S1x2048x128 .bf16 := vbM.slice (headR h) (fun _ => rfl)

/-- Head `8 c + h` of the key and value arrays. -/
abbrev srcR (c : Dev nD) (h : Fin 8) : Rect S2048x32x128 := Rect.unit (s := S2048x32x128) (k0_off1 c (BitVec.ofNat 32 h.val)) S2048x1x128.size (k0_off1_inb c h)
abbrev keyAt (c : Dev nD) (h : Fin 8) : Memref sig .tc .hbm S2048x128 .f32 := (keyM.slice (srcR c h) (fun _ => rfl)).squeeze S2048x128 squeezes_S2048x1x128_S2048x128
abbrev valAt (c : Dev nD) (h : Fin 8) : Memref sig .tc .hbm S2048x128 .f32 := (valM.slice (srcR c h) (fun _ => rfl)).squeeze S2048x128 squeezes_S2048x1x128_S2048x128

/-- The semaphores of the two copies. -/
abbrev keyS (h : Fin 8) : DmaSem sig := ((cc0_scratch7.slice (Rect.unit (s := S8) ![h.val] S1.size (inb_at h))).squeeze S_ squeezes_S1_S_).sem
abbrev valS (h : Fin 8) : DmaSem sig := ((cc0_scratch8.slice (Rect.unit (s := S8) ![h.val] S1.size (inb_at h))).squeeze S_ squeezes_S1_S_).sem

theorem keyS_val : ∀ h : Fin 8, (keyS h).val = 4 + h.val := by decide
theorem valS_val : ∀ h : Fin 8, (valS h).val = 12 + h.val := by decide

variable (I : Inputs F)

section Fetch

variable (c : Dev nD) (h : Fin 8)

/-- What a head's two copies need before they start: counters at zero, the sources, the slots. -/
def idle : sProp 𝕄 := iprop(semVal ((c : Thread nD τ), .dma (keyS h)) 0 ∗ semVal ((c : Thread nD τ), .dma (valS h)) 0
  ∗ ((keyAt c h).view.loc (c : Thread nD τ) ↦[(keyAt c h).view.set]{fullShare} I.key c) ∗ ((valAt c h).view.loc (c : Thread nD τ) ↦[(valAt c h).view.set]{fullShare} I.val c)
  ∗ (∃ f, (kbufAt h).view.loc (c : Thread nD τ) ↦[(kbufAt h).view.set]{fullShare} f) ∗ (∃ f, (vbufAt h).view.loc (c : Thread nD τ) ↦[(vbufAt h).view.set]{fullShare} f))

/-- Both copies under way: each will hand back its source and its slot, the slot holding the head. -/
def flying : sProp 𝕄 := iprop(∃ f g,
  Transfers.Flight countersEmb (c : Thread nD τ) (.dma (keyS h)) default 32768
    iprop(((kbufAt h).view.loc (c : Thread nD τ) ↦[(kbufAt h).view.set]{fullShare}
          (kbufAt h).view.writes (Elt F) f [⟨Rect.whole S2048x128, ReadAs.same.apply ((keyAt c h).view.read (Elt F) (I.key c))⟩])
        ∗ (keyAt c h).view.loc (c : Thread nD τ) ↦[(keyAt c h).view.set]{fullShare} I.key c)
  ∗ Transfers.Flight countersEmb (c : Thread nD τ) (.dma (valS h)) default 32768
    iprop(((vbufAt h).view.loc (c : Thread nD τ) ↦[(vbufAt h).view.set]{fullShare}
          (vbufAt h).view.writes (Elt F) g [⟨Rect.whole S2048x128, ReadAs.same.apply ((valAt c h).view.read (Elt F) (I.val c))⟩])
        ∗ (valAt c h).view.loc (c : Thread nD τ) ↦[(valAt c h).view.set]{fullShare} I.val c))

set_option maxHeartbeats 4000000 in
/-- Starting a head's two copies. -/
theorem wp_fetch {α : Type} {Q : α → sProp 𝕄} {k' : PUnit → Prog (TpuEff nD τ sig (Elt F) Λ₀ .tc) α} {e1 e2 e3 e4 e5 e6} :
    idle I c h
      ⊢ iprop((flying I c h -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (keyAt c h) (.here (kbufAt h)) (.dma (keyS h)) e1 e2 e3)
                fun _ => .op (.enqueueDma (valAt c h) (.here (vbufAt h)) (.dma (valS h)) e4 e5 e6) k') Q) := by
  unfold idle
  iintro ⟨Hs, Ht, Hk, Hv, ⟨%f, Hd⟩, %g, He⟩ Hc
  sl_exec
  iapply Hc
  unfold flying
  iexists f, g
  isplitl [Hs]
  · iexact Hs
  · iexact Ht

/-! ## What a fetched head reads -/

/-- Element `i` of the window of head `8 c + h`. -/
theorem srcR_idx (i : S2048x1x128.Idx) : (srcR c h).emb i = ix3 (n0 := 2048) (n1 := 32) (n2 := 128) (i 0)
      ⟨8 * c.val + h.val, by have h1 : c.val < 4 := c.isLt; have h2 := h.isLt; omega⟩ (i 2) := by
  have h0 : (i 1).val = 0 := by have := (i 1).isLt; simp only [S2048x1x128] at this; dsimp at this; omega
  funext a
  apply Fin.ext
  match a with
  | ⟨0, _⟩ => show k0_off1 c (BitVec.ofNat 32 h.val) 0 + 1 * (i 0).val = (i 0).val; rw [k0_off1_eq]; show 0 + 1 * _ = _; omega
  | ⟨1, _⟩ => show k0_off1 c (BitVec.ofNat 32 h.val) 1 + 1 * (i 1).val = 8 * c.val + h.val; rw [k0_off1_eq]; show 8 * c.val + h.val + 1 * _ = _; omega
  | ⟨2, _⟩ => show k0_off1 c (BitVec.ofNat 32 h.val) 2 + 1 * (i 2).val = (i 2).val; rw [k0_off1_eq]; show 0 + 1 * _ = _; omega

/-- Dropping the unit axis between rows and columns. -/
theorem drop_mid (hr : S2048x128.numel = S2048x1x128.numel) (i : S2048x128.Idx) :
    Shape.reshapeEquiv hr i = ix3 (n0 := 2048) (n1 := 1) (n2 := 128) (i 0) ⟨0, Nat.one_pos⟩ (i 1) :=
  Shape.reshapeEquiv_eq_of_rowMajor hr (by
    rw [Shape.rowMajor_val_three, Shape.rowMajor_val_two]
    show ((i 0).val * 1 + 0) * 128 + (i 1).val = (i 0).val * 128 + (i 1).val
    omega)

theorem read_key (A : Vec F S2048x32x128 .f32) (i : S2048x128.Idx) :
    (keyAt c h).view.read (Elt F) A i = A (ix3 (n0 := 2048) (n1 := 32) (n2 := 128) (i 0)
      ⟨8 * c.val + h.val, by have h1 : c.val < 4 := c.isLt; have h2 := h.isLt; omega⟩ (i 1)) := by
  show A ((srcR c h).emb (Shape.reshapeEquiv _ i)) = _
  rw [drop_mid, srcR_idx]; rfl
theorem read_val (A : Vec F S2048x32x128 .f32) (i : S2048x128.Idx) :
    (valAt c h).view.read (Elt F) A i = A (ix3 (n0 := 2048) (n1 := 32) (n2 := 128) (i 0)
      ⟨8 * c.val + h.val, by have h1 : c.val < 4 := c.isLt; have h2 := h.isLt; omega⟩ (i 1)) := by
  show A ((srcR c h).emb (Shape.reshapeEquiv _ i)) = _
  rw [drop_mid, srcR_idx]; rfl

/-- A block of f32 rounded to bf16 (the unit axis is dropped and added again on the way). -/
def roundBlock (X : Vec F S1x2048x128 .f32) : Vec F S1x2048x128 .bf16 :=
  shapeCast S1x2048x128 (truncf .bf16 (shapeCast S2048x128 X shapeCasts_S1x2048x128_S2048x128) bitsLt_bf16_f32) shapeCasts_S2048x128_S1x2048x128

theorem roundBlock_eq (A : Vec F S2048x32x128 .f32) (X : Vec F S1x2048x128 .f32)
    (hX : ∀ i : S2048x128.Idx, shapeCast S2048x128 X shapeCasts_S1x2048x128_S2048x128 i = A (ix3 (n0 := 2048) (n1 := 32) (n2 := 128) (i 0)
      ⟨8 * c.val + h.val, by have h1 : c.val < 4 := c.isLt; have h2 := h.isLt; omega⟩ (i 1))) :
    roundBlock X = headAt (heads c A) h := by
  funext j
  unfold roundBlock
  refine (shapeCast_addUnit_apply (![2048, 128]) _ _ j).trans ?_
  show FloatOps.truncf _ _ _ = FloatOps.truncf _ _ _
  exact congrArg _ (hX _)

/-- What the key slot reads once its copy has landed; -/
theorem read_kbuf (f) (A : Vec F S2048x32x128 .f32) :
    roundBlock (kbufM.view.readAt (Elt F) (headR h).toLoadRect ((kbufAt h).view.writes (Elt F) f [⟨Rect.whole S2048x128, ReadAs.same.apply ((keyAt c h).view.read (Elt F) A)⟩]))
      = headAt (heads c A) h :=
  roundBlock_eq c h A _ fun i => (congrFun (View.read_writes_whole (kbufAt h).view f (ReadAs.same.apply ((keyAt c h).view.read (Elt F) A))) i).trans (read_key c h A i)
/-- and the value slot. -/
theorem read_vbuf (f) (A : Vec F S2048x32x128 .f32) :
    roundBlock (vbufM.view.readAt (Elt F) (headR h).toLoadRect ((vbufAt h).view.writes (Elt F) f [⟨Rect.whole S2048x128, ReadAs.same.apply ((valAt c h).view.read (Elt F) A)⟩]))
      = headAt (heads c A) h :=
  roundBlock_eq c h A _ fun i => (congrFun (View.read_writes_whole (vbufAt h).view f (ReadAs.same.apply ((valAt c h).view.read (Elt F) A))) i).trans (read_val c h A i)

theorem mayWait_fetch (q : DmaSem sig) (hq : q.val < 20) : (levAts L lv : sProp 𝕄) ⊢ MayWait (c : Thread nD τ) (.dma q) () (debt c 2) :=
  mayWait c (.dma q) 2 (by
    have e : level (.dma q) = 0 := by unfold level; exact if_neg (by omega)
    rw [e]; decide)

set_option maxHeartbeats 4000000 in
/-- A head's step of the first chunk: its copies are waited for, the two blocks rounded, kept, and read. -/
theorem wp_stage {α : Type} {Q : α → sProp 𝕄} {k' : Vec F S1x2048x128 .bf16 → Vec F S1x2048x128 .bf16 → Prog (TpuEff nD τ sig (Elt F) Λ₀ .tc) α} {w1 w2 w3 w4 l1 l2 l3 l4 l5 l6 s1 m1 s2 m2}
    {wk wv : Vec F S1x2048x128 .f32 → Vec F S1x2048x128 .bf16} (hwk : wk = roundBlock) (hwv : wv = roundBlock) (W : Waits sig Unit) :
    iprop(flying I c h ∗ levAts L lv ∗ owes (c : Thread nD τ) (debt c 2) W ∗ (∃ X, owns (c : Thread nD τ) (kbAt h) fullShare X) ∗ (∃ X, owns (c : Thread nD τ) (vbAt h) fullShare X))
      ⊢ iprop((iprop(idle I c h ∗ (∃ W', owes (c : Thread nD τ) (debt c 2) W')
              ∗ owns (c : Thread nD τ) (kbAt h) fullShare (headAt (heads c (I.key c)) h) ∗ owns (c : Thread nD τ) (vbAt h) fullShare (headAt (heads c (I.val c)) h))
            -∗ wp frame (wpE (defs₀ (F := F)) 𝒱₀ (c : Thread nD τ) none) Set.univ (k' (headAt (heads c (I.key c)) h) (headAt (heads c (I.val c)) h)) Q)
          -∗ wp frame (wpE (defs₀ (F := F)) 𝒱₀ (c : Thread nD τ) none) Set.univ
              (.op (.waitDma2 (keyS h) (keyAt c h) (kbufAt h) w1 w2) fun _ =>
               .op (.waitDma2 (valS h) (valAt c h) (vbufAt h) w3 w4) fun _ =>
               .op (.load kbufM (headR h).toLoadRect l1) fun a =>
               .op (.load kbM (headR h).toLoadRect l2) fun _ =>
               .op (.store kbM (headR h) (wk a) Finset.univ s1 m1) fun _ =>
               .op (.load vbufM (headR h).toLoadRect l3) fun b =>
               .op (.load vbM (headR h).toLoadRect l4) fun _ =>
               .op (.store vbM (headR h) (wv b) Finset.univ s2 m2) fun _ =>
               .op (.load kbM (headR h).toLoadRect l5) fun p =>
               .op (.load vbM (headR h).toLoadRect l6) fun q => k' p q) Q) := by
  subst hwk hwv
  have hK := mayWait_fetch (F := F) c (keyS h) (by rw [keyS_val]; omega)
  have hV := mayWait_fetch (F := F) c (valS h) (by rw [valS_val]; omega)
  unfold flying owns
  iintro ⟨⟨%f, %g, Hs, Ht⟩, #Hl, HO, ⟨%X, %u, -, Hk⟩, %Y, %v, -, Hv⟩ Hc
  sl_exec
  rw [show roundBlock (wp_stage.sl.a I c h) = headAt (heads c (I.key c)) h from read_kbuf c h _ _,
    show roundBlock (wp_stage.sl.b I c h) = headAt (heads c (I.val c)) h from read_vbuf c h _ _]
  iapply Hc
  unfold idle
  isplitl [Hs Ht Hs_src Hs_dst Ht_src Ht_dst]
  · isplitl [Hs]; · iexact Hs
    isplitl [Ht]; · iexact Ht
    isplitl [Hs_src]; · iexact Hs_src
    isplitl [Ht_src]; · iexact Ht_src
    isplitl [Hs_dst]
    · iexists _; iexact Hs_dst
    · iexists _; iexact Ht_dst
  isplitl [HO]; · iexists _; iexact HO
  isplitl [Hk]
  · iexists _
    isplitr
    rotate_left
    · iexact Hk
    · ipureintro
      exact (View.read_write_univ _ _).trans (read_kbuf c h _ _)
  · iexists _
    isplitr
    rotate_left
    · iexact Hv
    · ipureintro
      exact (View.read_write_univ _ _).trans (read_vbuf c h _ _)

end Fetch

end Cert.KernelIdealProof

end
-- ==== Proof.KernelIdeal.Stages.lean ====
/-
# The steps of a chunk

A chunk is computed from the eight rounded heads the device keeps (`wp_heads`), its block is put in the result and, rounded,
in a send buffer, from which it is copied to the partner (`wp_publish`); a landed chunk is read with the result's chunk
(`wp_gather`), and the sum put back (`wp_settle`, or `wp_publish` again when it is also sent on).
-/
module

public import proofs.«01_k».proof.Proof.KernelIdeal.Heads

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inputs F) (K : Dev nD × Cl → ℕ) (c : Dev nD)

/-! ## Reading the eight heads -/

/-- Head `h` of the rounded keys of device `c`, -/
abbrev keyBlk (h : Fin 8) : Vec F S1x2048x128 .bf16 := headAt (heads c (I.key c)) h
/-- and of its values. -/
abbrev valBlk (h : Fin 8) : Vec F S1x2048x128 .bf16 := headAt (heads c (I.val c)) h

/-- Slot `h` of the two bf16 buffers holds head `h`. -/
def kept (h : Fin 8) : sProp 𝕄 := iprop(owns (c : Thread nD τ) (kbAt h) fullShare (keyBlk I c h) ∗ owns (c : Thread nD τ) (vbAt h) fullShare (valBlk I c h))
/-- All eight do. -/
def keptAll : sProp 𝕄 := iprop(kept I c 0 ∗ kept I c 1 ∗ kept I c 2 ∗ kept I c 3 ∗ kept I c 4 ∗ kept I c 5 ∗ kept I c 6 ∗ kept I c 7)

/-- Reading a kept head's keys and values. -/
theorem wp_head (h : Fin 8) {α : Type} {Q : α → sProp 𝕄} {k' : Vec F S1x2048x128 .bf16 → Vec F S1x2048x128 .bf16 → Prog (TpuEff nD τ sig (Elt F) Λ₀ .tc) α} {l1 l2} :
    kept I c h
      ⊢ iprop((kept I c h -∗ wp frame (wpE (defs₀ (F := F)) 𝒱₀ (c : Thread nD τ) none) Set.univ (k' (keyBlk I c h) (valBlk I c h)) Q)
          -∗ wp frame (wpE (defs₀ (F := F)) 𝒱₀ (c : Thread nD τ) none) Set.univ
              (.op (.load kbM (headR h).toLoadRect l1) fun p => .op (.load vbM (headR h).toLoadRect l2) fun q => k' p q) Q) := by
  unfold kept
  iintro ⟨Hk, Hv⟩ Hc
  iapply (wp_peek c kbM (headR h) (fun _ => rfl) (keyBlk I c h)) $$ Hk
  iintro Hk
  iapply (wp_peek c vbM (headR h) (fun _ => rfl) (valBlk I c h)) $$ Hv
  iintro Hv
  iapply Hc
  isplitl [Hk] <;> iassumption

/-- Reading a whole buffer. -/
theorem wp_entire {s : Shape} {e : EltTy} (M : Memref sig .tc .vmem s e) (r : Rect s) {hl : M.view.LoadsAt r.toLoadRect} (f : Buf (Elt F) (M.view.loc (c : Thread nD τ)))
    (X : r.shape.Idx → Elt F e) (h : M.view.readAt (Elt F) r.toLoadRect f = X) {α : Type} {Q : α → sProp 𝕄} {k' : (r.shape.Idx → Elt F e) → Prog (TpuEff nD τ sig (Elt F) Λ₀ .tc) α} :
    (M.view.loc (c : Thread nD τ) ↦{fullShare} f)
      ⊢ iprop(((M.view.loc (c : Thread nD τ) ↦{fullShare} f) -∗ wp frame (wpE (defs₀ (F := F)) 𝒱₀ (c : Thread nD τ) none) Set.univ (k' X) Q)
          -∗ wp frame (wpE (defs₀ (F := F)) 𝒱₀ (c : Thread nD τ) none) Set.univ (.op (.load M r.toLoadRect hl) k') Q) := by
  subst h
  exact wp_load_rect 𝒱₀ (c : Thread nD τ) none Set.univ (m := M) (r := r) (Finset.subset_univ _)

/-- A block of one head. -/
local notation "𝔹" => Vec F S1x2048x128 EltTy.bf16

/-- Reading all eight, one after another. -/
theorem wp_heads {α : Type} {Q : α → sProp 𝕄}
    {k' : 𝔹 → 𝔹 → 𝔹 → 𝔹 → 𝔹 → 𝔹 → 𝔹 → 𝔹 → 𝔹 → 𝔹 → 𝔹 → 𝔹 → 𝔹 → 𝔹 → 𝔹 → 𝔹 → Prog (TpuEff nD τ sig (Elt F) Λ₀ .tc) α}
    {l0 l1 l2 l3 l4 l5 l6 l7 r0 r1 r2 r3 r4 r5 r6 r7} :
    keptAll I c
      ⊢ iprop((keptAll I c -∗ wp frame (wpE (defs₀ (F := F)) 𝒱₀ (c : Thread nD τ) none) Set.univ
              (k' (keyBlk I c 0) (valBlk I c 0) (keyBlk I c 1) (valBlk I c 1) (keyBlk I c 2) (valBlk I c 2) (keyBlk I c 3) (valBlk I c 3)
                (keyBlk I c 4) (valBlk I c 4) (keyBlk I c 5) (valBlk I c 5) (keyBlk I c 6) (valBlk I c 6) (keyBlk I c 7) (valBlk I c 7)) Q)
          -∗ wp frame (wpE (defs₀ (F := F)) 𝒱₀ (c : Thread nD τ) none) Set.univ
              (.op (.load kbM (headR 0).toLoadRect l0) fun p0 => .op (.load vbM (headR 0).toLoadRect r0) fun q0 =>
               .op (.load kbM (headR 1).toLoadRect l1) fun p1 => .op (.load vbM (headR 1).toLoadRect r1) fun q1 =>
               .op (.load kbM (headR 2).toLoadRect l2) fun p2 => .op (.load vbM (headR 2).toLoadRect r2) fun q2 =>
               .op (.load kbM (headR 3).toLoadRect l3) fun p3 => .op (.load vbM (headR 3).toLoadRect r3) fun q3 =>
               .op (.load kbM (headR 4).toLoadRect l4) fun p4 => .op (.load vbM (headR 4).toLoadRect r4) fun q4 =>
               .op (.load kbM (headR 5).toLoadRect l5) fun p5 => .op (.load vbM (headR 5).toLoadRect r5) fun q5 =>
               .op (.load kbM (headR 6).toLoadRect l6) fun p6 => .op (.load vbM (headR 6).toLoadRect r6) fun q6 =>
               .op (.load kbM (headR 7).toLoadRect l7) fun p7 => .op (.load vbM (headR 7).toLoadRect r7) fun q7 =>
               k' p0 q0 p1 q1 p2 q2 p3 q3 p4 q4 p5 q5 p6 q6 p7 q7) Q) := by
  unfold keptAll
  iintro ⟨H0, H1, H2, H3, H4, H5, H6, H7⟩ Hc
  iapply (wp_head I c 0) $$ H0; iintro H0
  iapply (wp_head I c 1) $$ H1; iintro H1
  iapply (wp_head I c 2) $$ H2; iintro H2
  iapply (wp_head I c 3) $$ H3; iintro H3
  iapply (wp_head I c 4) $$ H4; iintro H4
  iapply (wp_head I c 5) $$ H5; iintro H5
  iapply (wp_head I c 6) $$ H6; iintro H6
  iapply (wp_head I c 7) $$ H7; iintro H7
  iapply Hc
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## A chunk's block put in place, and sent -/

/-- Putting a block in chunk `k` of the result. -/
theorem wp_settle (k : Fin 4) {α : Type} {Q : α → sProp 𝕄} {k' : PUnit → Prog (TpuEff nD τ sig (Elt F) Λ₀ .tc) α} {l1 s1 m1}
    {w : Vec F S128x1024 .f32} (v : Vec F S128x1024 .f32) (hw : w = v) (X : Vec F S128x1024 .f32) :
    owns (c : Thread nD τ) (outAt k) fullShare X
      ⊢ iprop((owns (c : Thread nD τ) (outAt k) fullShare v -∗ wp frame (wpE (defs₀ (F := F)) 𝒱₀ (c : Thread nD τ) none) Set.univ (k' ⟨⟩) Q)
          -∗ wp frame (wpE (defs₀ (F := F)) 𝒱₀ (c : Thread nD τ) none) Set.univ
              (.op (.load outM (rowR k).toLoadRect l1) fun _ => .op (.store outM (rowR k) w Finset.univ s1 m1) k') Q) := by
  subst hw
  iintro Ho Hc
  iapply (wp_peek c outM (rowR k) (fun _ => rfl) X) $$ Ho
  iintro Ho
  iapply (wp_put c outM (rowR k) (fun _ => rfl) w X) $$ Ho
  iintro Ho
  iapply Hc
  iexact Ho

/-- Putting a block in chunk `k` of the result, its rounding in the send buffer of exchange `s`, and sending that. -/
theorem wp_publish (s : Fin 2) (k : Fin 4) (n : ℕ) (hn : debt c n = debt c (n + 1) + tallyAt (recvCell (peer c s) s k) () N) (d : Dev nD) (hd : d = peer c s)
    {α : Type} {Q : α → sProp 𝕄} {k' : PUnit → Prog (TpuEff nD τ sig (Elt F) Λ₀ .tc) α} {l1 s1 m1 l2 s2 m2}
    {hsc : (landAt s k : Memref sig (Dev.tc d : Thread nD τ).2.kind .vmem S128x1024 .bf16).view.ref.isScScratch = false}
    {hsrc : (sendAt s k).view.WordExact} {hdst : (landAt s k).view.WordExact}
    {hsem : DmaTarget.Typed .vmem (.dma (recvS s k)) (.remote (Dev.tc d : Thread nD τ) (landAt s k) (.dma (sendS s k)) hsc)}
    {w : Vec F S128x1024 .f32} {w' : Vec F S128x1024 .bf16} (v : Vec F S128x1024 .f32) (hw : w = v) (hw' : w' = wire I c s k) (W : Waits sig Unit) (X : Vec F S128x1024 .f32) :
    iprop(records I K ∗ owns (c : Thread nD τ) (outAt k) fullShare X ∗ (∃ Y, owns (c : Thread nD τ) (sendAt s k) fullShare Y) ∗ (∃ Z, owns (peer c s : Thread nD τ) (landAt s k) fullShare Z)
        ∗ owes (c : Thread nD τ) (debt c n) W ∗ dutyTok ER (sendCell c s k) 0 false ∗ dutyTok ER (recvCell (peer c s) s k) 0 false)
      ⊢ iprop(((owns (c : Thread nD τ) (outAt k) fullShare v ∗ cred (tallyAt (sendCell c s k) () N) ∗ owes (c : Thread nD τ) (debt c (n + 1)) W)
            -∗ wp frame (wpE (defs₀ (F := F)) 𝒱₀ (c : Thread nD τ) none) Set.univ (k' ⟨⟩) Q)
          -∗ wp frame (wpE (defs₀ (F := F)) 𝒱₀ (c : Thread nD τ) none) Set.univ
              (.op (.load outM (rowR k).toLoadRect l1) fun _ => .op (.store outM (rowR k) w Finset.univ s1 m1) fun _ =>
               .op (.load (sendM s) (rowR k).toLoadRect l2) fun _ => .op (.store (sendM s) (rowR k) w' Finset.univ s2 m2) fun _ =>
               .op (.enqueueDma (sendAt s k) (.remote (Dev.tc d : Thread nD τ) (landAt s k) (.dma (sendS s k)) hsc) (.dma (recvS s k)) hsrc hdst hsem) k') Q) := by
  subst hw'
  iintro ⟨#HR, Ho, ⟨%Y, Hs⟩, Hd, HO, Ht, Ht'⟩ Hc
  iapply (wp_settle c k v hw X) $$ Ho
  iintro Ho
  iapply (wp_peek c (sendM s) (rowR k) (fun _ => rfl) Y) $$ Hs
  iintro Hs
  iapply (wp_put c (sendM s) (rowR k) (fun _ => rfl) _ Y) $$ Hs
  iintro Hs
  iapply (wp_give I K c s k n hn d hd W) $$ [Hs Hd HO Ht Ht']
  · isplitr; · iexact HR
    isplitl [Hs]; · iexact Hs
    isplitl [Hd]; · iexact Hd
    isplitl [HO]; · iexact HO
    isplitl [Ht] <;> iassumption
  iintro ⟨Hcr, HO⟩
  iapply Hc
  isplitl [Ho]; · iexact Ho
  isplitl [Hcr] <;> iassumption

/-! ## A landed chunk -/

theorem casts_slab : S128x1024.ShapeCasts S1x128x1024 := Eq.symm shapeCasts_S1x128x1024_S128x1024
/-- A block with a unit axis in front. -/
abbrev slab (X : Vec F S128x1024 .bf16) : Vec F S1x128x1024 .bf16 := shapeCast S1x128x1024 X casts_slab

/-- Reading a landed chunk. -/
theorem wp_landed (s : Fin 2) (k : Fin 4) {α : Type} {Q : α → sProp 𝕄} {k' : Vec F S1x128x1024 .bf16 → Prog (TpuEff nD τ sig (Elt F) Λ₀ .tc) α} {l1} (X : Vec F S128x1024 .bf16) :
    owns (c : Thread nD τ) (landAt s k) fullShare X
      ⊢ iprop((owns (c : Thread nD τ) (landAt s k) fullShare X -∗ wp frame (wpE (defs₀ (F := F)) 𝒱₀ (c : Thread nD τ) none) Set.univ (k' (slab X)) Q)
          -∗ wp frame (wpE (defs₀ (F := F)) 𝒱₀ (c : Thread nD τ) none) Set.univ (.op (.load landM (slabR s k).toLoadRect l1) k') Q) := by
  unfold owns
  iintro ⟨%f, %hf, H⟩ Hk
  have e : (landM.view.readAt (Elt F) (slabR s k).toLoadRect f : Vec F S1x128x1024 .bf16) = slab X := by
    subst hf
    exact (shapeCast_shapeCast (s := S1x128x1024) (t := S128x1024) (landM.view.readAt (Elt F) (slabR s k).toLoadRect f) _ _).symm
  rw [← e]
  iapply (wp_load_rect 𝒱₀ (c : Thread nD τ) none Set.univ (m := landM) (r := slabR s k) (S := (landAt s k).view.set) (View.set_reshape (landM.slice (slabR s k) (fun _ => rfl)).view _).ge) $$ H
  iintro H
  iapply Hk
  iexists f
  isplitr; · ipureintro; exact hf
  iexact H

/-- Waiting for a chunk to land, then reading the result's chunk and the landed one. -/
theorem wp_gather (s : Fin 2) (k : Fin 4) (n : ℕ) (h : ∀ v ∈ ([1, 1, 2, 3, 4, 5, 6, 7, 8, 9] : List ℕ).drop n, level (.dma (recvS s k)) < v)
    {α : Type} {Q : α → sProp 𝕄} {k' : Vec F S128x1024 .f32 → Vec F S1x128x1024 .bf16 → Prog (TpuEff nD τ sig (Elt F) Λ₀ .tc) α} {l1 l2}
    {sp : Space} {s' : Shape} {e' : EltTy} {src : Memref sig .tc sp s' e'} {hsrc : src.view.WordExact} {hdst : (landAt s k).view.WordExact} (W : Waits sig Unit) (X : Vec F S128x1024 .f32) :
    iprop(records I K ∗ levAts L lv ∗ cred (tallyAt (recvCell c s k) () N) ∗ owes (c : Thread nD τ) (debt c n) W ∗ atPos ER (recvCell c s k) 0 ∅ 0 ∗ owns (c : Thread nD τ) (outAt k) fullShare X)
      ⊢ iprop(((owes (c : Thread nD τ) (debt c n) (insert (SemLoc.dma (recvS s k), ()) W) ∗ atPos ER (recvCell c s k) (0 + 1) ∅ 0
              ∗ owns (c : Thread nD τ) (landAt s k) fullShare (wire I (peer c s) s k) ∗ owns (c : Thread nD τ) (outAt k) fullShare X)
            -∗ wp frame (wpE (defs₀ (F := F)) 𝒱₀ (c : Thread nD τ) none) Set.univ (k' X (slab (wire I (peer c s) s k))) Q)
          -∗ wp frame (wpE (defs₀ (F := F)) 𝒱₀ (c : Thread nD τ) none) Set.univ
              (.op (.waitDma2 (recvS s k) src (landAt s k) hsrc hdst) fun _ => .op (.load outM (rowR k).toLoadRect l1) fun a => .op (.load landM (slabR s k).toLoadRect l2) fun b => k' a b) Q) := by
  iintro ⟨#HR, #Hl, Hcr, HO, Ha, Ho⟩ Hc
  iapply (wp_land I K c s k n h W) $$ [Hcr HO Ha]
  · isplitr; · iexact HR
    isplitr; · iexact Hl
    isplitl [Hcr]; · iexact Hcr
    isplitl [HO] <;> iassumption
  iintro ⟨HO, Ha, Hd⟩
  iapply (wp_peek c outM (rowR k) (fun _ => rfl) X) $$ Ho
  iintro Ho
  iapply (wp_landed c s k _) $$ Hd
  iintro Hd
  iapply Hc
  isplitl [HO]; · iexact HO
  isplitl [Ha]; · iexact Ha
  isplitl [Hd] <;> iassumption

/-- What the kernel adds to its block: the landed one, the unit axis dropped. -/
theorem plus_slab (a : Vec F S128x1024 .f32) (b : Vec F S128x1024 .bf16) :
    addf (shapeCast S128x1024 a shapeCasts_S128x1024_S128x1024) (extf .f32 (shapeCast S128x1024 (slab b) shapeCasts_S1x128x1024_S128x1024) bitsLt_bf16_f32) = plus a b := by
  unfold slab plus
  rw [shapeCast_self, shapeCast_shapeCast]

end Cert.KernelIdealProof

end
-- ==== Proof.KernelIdeal.Body.lean ====
/-
# A device's run of the kernel

The run of the kernel's text on a symbolic device, from the resources it starts with to those it leaves: each chunk of the
result at the sum of the four devices' contributions, in the order in which the exchanges add them.
-/
module

public import proofs.«01_k».proof.Proof.KernelIdeal.Stages

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inputs F) (K : Dev nD × Cl → ℕ) (c : Dev nD)

/-! ## The partners the text names -/

theorem dev1_eq : (⟨k0_dev1 c, k0_dev1_lt c⟩ : Dev nD) = peer c 0 := by revert c; decide
theorem dev2_eq : (⟨k0_dev2 c, k0_dev2_lt c⟩ : Dev nD) = peer c 1 := by revert c; decide
theorem dev3_eq : (⟨k0_dev3 c, k0_dev3_lt c⟩ : Dev nD) = peer c 0 := by revert c; decide
theorem dev4_eq : (⟨k0_dev4 c, k0_dev4_lt c⟩ : Dev nD) = peer c 0 := by revert c; decide
theorem dev5_eq : (⟨k0_dev5 c, k0_dev5_lt c⟩ : Dev nD) = peer c 1 := by revert c; decide
theorem dev6_eq : (⟨k0_dev6 c, k0_dev6_lt c⟩ : Dev nD) = peer c 0 := by revert c; decide
theorem dev7_eq : (⟨k0_dev7 c, k0_dev7_lt c⟩ : Dev nD) = peer c 1 := by revert c; decide
theorem dev8_eq : (⟨k0_dev8 c, k0_dev8_lt c⟩ : Dev nD) = peer c 0 := by revert c; decide
theorem dev9_eq : (⟨k0_dev9 c, k0_dev9_lt c⟩ : Dev nD) = peer c 1 := by revert c; decide
theorem dev10_eq : (⟨k0_dev10 c, k0_dev10_lt c⟩ : Dev nD) = peer c 1 := by revert c; decide

/-! ## What a run starts from and leaves -/

/-- For each head. -/
def heads8 (Φ : Fin 8 → sProp 𝕄) : sProp 𝕄 := iprop(Φ 0 ∗ Φ 1 ∗ Φ 2 ∗ Φ 3 ∗ Φ 4 ∗ Φ 5 ∗ Φ 6 ∗ Φ 7)
/-- For each chunk. -/
def chunks4 (Φ : Fin 4 → sProp 𝕄) : sProp 𝕄 := iprop(Φ 0 ∗ Φ 1 ∗ Φ 2 ∗ Φ 3)

/-- A head's place, before its keys and values are fetched or when they are no longer needed. -/
def place (h : Fin 8) : sProp 𝕄 := iprop(idle I c h ∗ (∃ X, owns (c : Thread nD τ) (kbAt h) fullShare X) ∗ (∃ X, owns (c : Thread nD τ) (vbAt h) fullShare X))

/-- What a device holds for chunk `k` of exchange `s`: its chunk of the send buffer, the two sides of the copy it will make,
and the claim to the copy it will receive. -/
def lane (s : Fin 2) (k : Fin 4) : sProp 𝕄 := iprop((∃ Y, owns (c : Thread nD τ) (sendAt s k) fullShare Y) ∗ dutyTok ER (sendCell c s k) 0 false ∗ dutyTok ER (recvCell (peer c s) s k) 0 false
  ∗ cred (tallyAt (recvCell c s k) () N) ∗ atPos ER (sendCell c s k) 0 ∅ 0 ∗ atPos ER (recvCell c s k) 0 ∅ 0)
/-- What it has of it in the end: both chunks again, both counters at zero. -/
def spent (s : Fin 2) (k : Fin 4) : sProp 𝕄 := iprop((∃ Y, owns (c : Thread nD τ) (sendAt s k) fullShare Y) ∗ (∃ Z, owns (c : Thread nD τ) (landAt s k) fullShare Z)
  ∗ semVal (sendCell c s k) 0 ∗ semVal (recvCell c s k) 0)

/-- The handshake: the two signals to give, the two to take. -/
def greeting : sProp 𝕄 := iprop(dutyTok ER (barCell (peer c 0)) 0 (dutyOf 0) ∗ dutyTok ER (barCell (peer c 1)) 0 (dutyOf 1)
  ∗ cred (tallyAt (barCell c) () 2) ∗ atPos ER (barCell c) 0 ∅ 0)

/-- The three staged operands. -/
def operands : sProp 𝕄 := iprop((xM.view.loc (c : Thread nD τ) ↦{fullShare} I.x c) ∗ (wqM.view.loc (c : Thread nD τ) ↦{fullShare} I.wq c) ∗ (woM.view.loc (c : Thread nD τ) ↦{fullShare} I.wo c))

/-- What a run starts from, -/
def runPre (W : Waits sig Unit) : sProp 𝕄 := iprop(records I K ∗ levAts L lv ∗ owes (c : Thread nD τ) (debt c 0) W ∗ greeting (F := F) c ∗ operands I c
  ∗ barPay (F := F) c 0 ∗ barPay (F := F) c 1 ∗ heads8 (place I c) ∗ chunks4 (fun k => iprop(∃ X, owns (c : Thread nD τ) (outAt k) fullShare X))
  ∗ chunks4 (lane (F := F) c 0) ∗ chunks4 (lane (F := F) c 1))
/-- and what it leaves. -/
def runPost : sProp 𝕄 := iprop((∃ W, owes (c : Thread nD τ) 0 W) ∗ operands I c ∗ semVal (barCell c) 0
  ∗ heads8 (place I c) ∗ chunks4 (fun k => owns (c : Thread nD τ) (outAt k) fullShare (total I c k))
  ∗ chunks4 (spent (F := F) c 0) ∗ chunks4 (spent (F := F) c 1))

theorem barPay_eq (e : Dev nD) (s : Fin 2) : (barPay e s : sProp 𝕄) = chunks4 fun k => iprop(∃ X, owns (e : Thread nD τ) (landAt s k) fullShare X) := by
  unfold barPay
  rw [bigSep_univ_eq_bigSepL [0, 1, 2, 3] (by decide) (by decide)]; rfl

theorem barPay_open (e : Dev nD) (s : Fin 2) : (barPay e s : sProp 𝕄) ⊢ iprop((∃ X, owns (e : Thread nD τ) (landAt s 0) fullShare X) ∗ (∃ X, owns (e : Thread nD τ) (landAt s 1) fullShare X)
    ∗ (∃ X, owns (e : Thread nD τ) (landAt s 2) fullShare X) ∗ ∃ X, owns (e : Thread nD τ) (landAt s 3) fullShare X) := by
  rw [barPay_eq]; exact .rfl

/-- A landed chunk added, and the sum rounded for sending. -/
theorem round_sum (a : Vec F S128x1024 .f32) (b : Vec F S128x1024 .bf16) :
    shapeCast S128x1024 (truncf .bf16 (addf (shapeCast S128x1024 a shapeCasts_S128x1024_S128x1024) (extf .f32 (shapeCast S128x1024 (slab b) shapeCasts_S1x128x1024_S128x1024) bitsLt_bf16_f32)) bitsLt_bf16_f32)
      shapeCasts_S128x1024_S128x1024 = rnd (plus a b) := by
  rw [shapeCast_self, plus_slab]; rfl

/-- Once used, a head's place is as before, whatever its slots hold. -/
theorem place_back (h : Fin 8) (X Y) : ⊢ iprop(idle I c h -∗ owns (c : Thread nD τ) (kbAt h) fullShare X -∗ owns (c : Thread nD τ) (vbAt h) fullShare Y -∗ place I c h) := by
  iintro Hi Hk Hv
  unfold place
  isplitl [Hi]; · iexact Hi
  isplitl [Hk]; · iexists X; iexact Hk
  iexists Y; iexact Hv

/-- A chunk whose two copies are through. -/
theorem spent_back (s : Fin 2) (k : Fin 4) (Z) : ⊢ iprop(sendPay c s k -∗ owns (c : Thread nD τ) (landAt s k) fullShare Z -∗ semVal (kcell (c, some (false, s, k))) 0
    -∗ semVal (kcell (c, some (true, s, k))) 0 -∗ spent (F := F) c s k) := by
  iintro Hs Hl Ha Hb
  unfold spent sendPay
  isplitl [Hs]; · iexact Hs
  isplitl [Hl]; · iexists Z; iexact Hl
  isplitl [Ha] <;> iassumption

theorem origin2 : (![0, 0] : Fin 2 → ℕ) = fun _ => 0 := by decide

set_option maxRecDepth 65536 in
set_option maxHeartbeats 40000000 in
/-- The run. -/
theorem run (W : Waits sig Unit) (Kt : PUnit → sProp 𝕄) :
    iprop(runPre I K c W ∗ (runPost I c -∗ Kt ⟨⟩))
      ⊢ wp frame (wpE (defs₀ (F := F)) 𝒱₀ (c : Thread nD τ) none) Set.univ (cc0_body (F := F) xM (Memref.isWhole_whole _) wqM (Memref.isWhole_whole _) woM (Memref.isWhole_whole _) keyM (Memref.isWhole_whole _) valM (Memref.isWhole_whole _) outM (Memref.isWhole_whole _) kbufM (Memref.isWhole_whole _) vbufM (Memref.isWhole_whole _) kbM (Memref.isWhole_whole _) vbM (Memref.isWhole_whole _) (sendM 0) (Memref.isWhole_whole _) (sendM 1) (Memref.isWhole_whole _) landM (Memref.isWhole_whole _) cc0_scratch7 cc0_scratch8 cc0_scratch9 cc0_scratch10) Kt := by
  simp only [cc0_body_eq_skeleton]
  unfold cc0_body_skel
  simp only [k0_part35_eq_skeleton]
  unfold k0_part35_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel
  simp only [semSignalWord, semWaitWord, Prog.lift, Prog.bind_op, Prog.bind_ret, Prog.pure_eq_ret, wp_deviceId]
  unfold runPre greeting operands heads8 chunks4 place lane
  iintro ⟨⟨#HR, #Hl, HO, ⟨Hg1, Hg2, Hbc, Hba⟩, ⟨Hx, Hq, Ho⟩, Hl1, Hl2, ⟨⟨Hi0, Hk0, Hv0⟩, ⟨Hi1, Hk1, Hv1⟩, ⟨Hi2, Hk2, Hv2⟩, ⟨Hi3, Hk3, Hv3⟩, ⟨Hi4, Hk4, Hv4⟩, ⟨Hi5, Hk5, Hv5⟩, ⟨Hi6, Hk6, Hv6⟩, ⟨Hi7, Hk7, Hv7⟩⟩, ⟨⟨%X0, Hout0⟩, ⟨%X1, Hout1⟩, ⟨%X2, Hout2⟩, ⟨%X3, Hout3⟩⟩, ⟨⟨Hs00, Ht00, Hd00, Hc00, Ha00, Hb00⟩, ⟨Hs01, Ht01, Hd01, Hc01, Ha01, Hb01⟩, ⟨Hs02, Ht02, Hd02, Hc02, Ha02, Hb02⟩, ⟨Hs03, Ht03, Hd03, Hc03, Ha03, Hb03⟩⟩, ⟨⟨Hs10, Ht10, Hd10, Hc10, Ha10, Hb10⟩, ⟨Hs11, Ht11, Hd11, Hc11, Ha11, Hb11⟩, ⟨Hs12, Ht12, Hd12, Hc12, Ha12, Hb12⟩, ⟨Hs13, Ht13, Hd13, Hc13, Ha13, Hb13⟩⟩⟩, Hpost⟩
  -- the handshake
  iapply (wp_greet I K c 0 _ (dev1_eq c) rfl W) $$ [HO Hg1 Hl1]
  · isplitr; · iexact HR
    isplitl [HO]; · iexact HO
    isplitl [Hg1] <;> iassumption
  iintro HO
  iapply (wp_greet I K c 1 _ (dev2_eq c) rfl W) $$ [HO Hg2 Hl2]
  · isplitr; · iexact HR
    isplitl [HO]; · iexact HO
    isplitl [Hg2] <;> iassumption
  iintro HO
  iapply (wp_met I K c rfl W) $$ [Hbc HO Hba]
  · isplitr; · iexact HR
    isplitr; · iexact Hl
    isplitl [Hbc]; · iexact Hbc
    isplitl [HO]; · iexact HO
    iexact Hba
  iintro ⟨HO, Hba, Hp1, Hp2⟩
  ihave Hp1 := (barPay_open (F := F) (p1 c) 0) $$ Hp1
  ihave Hp2 := (barPay_open (F := F) (p2 c) 1) $$ Hp2
  icases Hp1 with ⟨He00, He01, He02, He03⟩
  icases Hp2 with ⟨He10, He11, He12, He13⟩
  -- all fetches are started
  iapply (wp_fetch I c 0) $$ Hi0; iintro Hi0
  iapply (wp_fetch I c 1) $$ Hi1; iintro Hi1
  iapply (wp_fetch I c 2) $$ Hi2; iintro Hi2
  iapply (wp_fetch I c 3) $$ Hi3; iintro Hi3
  iapply (wp_fetch I c 4) $$ Hi4; iintro Hi4
  iapply (wp_fetch I c 5) $$ Hi5; iintro Hi5
  iapply (wp_fetch I c 6) $$ Hi6; iintro Hi6
  iapply (wp_fetch I c 7) $$ Hi7; iintro Hi7
  iapply (wp_entire c xM _ (I.x c) (I.x c) (Memref.readAt_unit_zero (Elt F) _ origin2 _ _)) $$ Hx; iintro Hx
  iapply (wp_entire c wqM _ (I.wq c) (I.wq c) (Memref.readAt_unit_zero (Elt F) _ origin2 _ _)) $$ Hq; iintro Hq
  iapply (wp_entire c woM _ (I.wo c) (I.wo c) (Memref.readAt_unit_zero (Elt F) _ origin2 _ _)) $$ Ho; iintro Ho
  -- the first chunk
  iapply (wp_stage I c 0 rfl rfl _) $$ [Hi0 HO Hk0 Hv0]
  · isplitl [Hi0]; · iexact Hi0
    isplitr; · iexact Hl
    isplitl [HO]; · iexact HO
    isplitl [Hk0] <;> iassumption
  iintro ⟨Hi0, ⟨%W0, HO⟩, Hk0, Hv0⟩
  iapply (wp_stage I c 1 rfl rfl _) $$ [Hi1 HO Hk1 Hv1]
  · isplitl [Hi1]; · iexact Hi1
    isplitr; · iexact Hl
    isplitl [HO]; · iexact HO
    isplitl [Hk1] <;> iassumption
  iintro ⟨Hi1, ⟨%W1, HO⟩, Hk1, Hv1⟩
  iapply (wp_stage I c 2 rfl rfl _) $$ [Hi2 HO Hk2 Hv2]
  · isplitl [Hi2]; · iexact Hi2
    isplitr; · iexact Hl
    isplitl [HO]; · iexact HO
    isplitl [Hk2] <;> iassumption
  iintro ⟨Hi2, ⟨%W2, HO⟩, Hk2, Hv2⟩
  iapply (wp_stage I c 3 rfl rfl _) $$ [Hi3 HO Hk3 Hv3]
  · isplitl [Hi3]; · iexact Hi3
    isplitr; · iexact Hl
    isplitl [HO]; · iexact HO
    isplitl [Hk3] <;> iassumption
  iintro ⟨Hi3, ⟨%W3, HO⟩, Hk3, Hv3⟩
  iapply (wp_stage I c 4 rfl rfl _) $$ [Hi4 HO Hk4 Hv4]
  · isplitl [Hi4]; · iexact Hi4
    isplitr; · iexact Hl
    isplitl [HO]; · iexact HO
    isplitl [Hk4] <;> iassumption
  iintro ⟨Hi4, ⟨%W4, HO⟩, Hk4, Hv4⟩
  iapply (wp_stage I c 5 rfl rfl _) $$ [Hi5 HO Hk5 Hv5]
  · isplitl [Hi5]; · iexact Hi5
    isplitr; · iexact Hl
    isplitl [HO]; · iexact HO
    isplitl [Hk5] <;> iassumption
  iintro ⟨Hi5, ⟨%W5, HO⟩, Hk5, Hv5⟩
  iapply (wp_stage I c 6 rfl rfl _) $$ [Hi6 HO Hk6 Hv6]
  · isplitl [Hi6]; · iexact Hi6
    isplitr; · iexact Hl
    isplitl [HO]; · iexact HO
    isplitl [Hk6] <;> iassumption
  iintro ⟨Hi6, ⟨%W6, HO⟩, Hk6, Hv6⟩
  iapply (wp_stage I c 7 rfl rfl _) $$ [Hi7 HO Hk7 Hv7]
  · isplitl [Hi7]; · iexact Hi7
    isplitr; · iexact Hl
    isplitl [HO]; · iexact HO
    isplitl [Hk7] <;> iassumption
  iintro ⟨Hi7, ⟨%W7, HO⟩, Hk7, Hv7⟩
  ihave Hkept : keptAll I c $$ [Hk0 Hv0 Hk1 Hv1 Hk2 Hv2 Hk3 Hv3 Hk4 Hv4 Hk5 Hv5 Hk6 Hv6 Hk7 Hv7]
  · unfold keptAll kept
    isplitl [Hk0 Hv0]; · isplitl [Hk0] <;> iassumption
    isplitl [Hk1 Hv1]; · isplitl [Hk1] <;> iassumption
    isplitl [Hk2 Hv2]; · isplitl [Hk2] <;> iassumption
    isplitl [Hk3 Hv3]; · isplitl [Hk3] <;> iassumption
    isplitl [Hk4 Hv4]; · isplitl [Hk4] <;> iassumption
    isplitl [Hk5 Hv5]; · isplitl [Hk5] <;> iassumption
    isplitl [Hk6 Hv6]; · isplitl [Hk6] <;> iassumption
    isplitl [Hk7] <;> iassumption
  iapply (wp_publish I K c 0 0 2 rfl _ (dev3_eq c) (part I c 0) rfl (shapeCast_self _ _) _ _) $$ [Hout0 Hs00 He00 HO Ht00 Hd00]
  · isplitr; · iexact HR
    isplitl [Hout0]; · iexact Hout0
    isplitl [Hs00]; · iexact Hs00
    isplitl [He00]; · iexact He00
    isplitl [HO]; · iexact HO
    isplitl [Ht00]; · iexact Ht00
    iexact Hd00
  iintro ⟨Hout0, Ht00, HO⟩
  -- the second
  iapply (wp_heads I c) $$ Hkept; iintro Hkept
  iapply (wp_publish I K c 0 1 3 rfl _ (dev4_eq c) (part I c 1) rfl (shapeCast_self _ _) _ _) $$ [Hout1 Hs01 He01 HO Ht01 Hd01]
  · isplitr; · iexact HR
    isplitl [Hout1]; · iexact Hout1
    isplitl [Hs01]; · iexact Hs01
    isplitl [He01]; · iexact He01
    isplitl [HO]; · iexact HO
    isplitl [Ht01]; · iexact Ht01
    iexact Hd01
  iintro ⟨Hout1, Ht01, HO⟩
  iapply (wp_gather I K c 0 0 4 (by decide) _ (part I c 0)) $$ [Hc00 HO Hb00 Hout0]
  · isplitr; · iexact HR
    isplitr; · iexact Hl
    isplitl [Hc00]; · iexact Hc00
    isplitl [HO]; · iexact HO
    isplitl [Hb00]; · iexact Hb00
    iexact Hout0
  iintro ⟨HO, Hb00, Hc00, Hout0⟩
  iapply (wp_publish I K c 1 0 4 rfl _ (dev5_eq c) (pair I c 0) (plus_slab _ _) (round_sum _ _) _ _) $$ [Hout0 Hs10 He10 HO Ht10 Hd10]
  · isplitr; · iexact HR
    isplitl [Hout0]; · iexact Hout0
    isplitl [Hs10]; · iexact Hs10
    isplitl [He10]; · iexact He10
    isplitl [HO]; · iexact HO
    isplitl [Ht10]; · iexact Ht10
    iexact Hd10
  iintro ⟨Hout0, Ht10, HO⟩
  -- the third
  iapply (wp_heads I c) $$ Hkept; iintro Hkept
  iapply (wp_publish I K c 0 2 5 rfl _ (dev6_eq c) (part I c 2) rfl (shapeCast_self _ _) _ _) $$ [Hout2 Hs02 He02 HO Ht02 Hd02]
  · isplitr; · iexact HR
    isplitl [Hout2]; · iexact Hout2
    isplitl [Hs02]; · iexact Hs02
    isplitl [He02]; · iexact He02
    isplitl [HO]; · iexact HO
    isplitl [Ht02]; · iexact Ht02
    iexact Hd02
  iintro ⟨Hout2, Ht02, HO⟩
  iapply (wp_gather I K c 0 1 6 (by decide) _ (part I c 1)) $$ [Hc01 HO Hb01 Hout1]
  · isplitr; · iexact HR
    isplitr; · iexact Hl
    isplitl [Hc01]; · iexact Hc01
    isplitl [HO]; · iexact HO
    isplitl [Hb01]; · iexact Hb01
    iexact Hout1
  iintro ⟨HO, Hb01, Hc01, Hout1⟩
  iapply (wp_publish I K c 1 1 6 rfl _ (dev7_eq c) (pair I c 1) (plus_slab _ _) (round_sum _ _) _ _) $$ [Hout1 Hs11 He11 HO Ht11 Hd11]
  · isplitr; · iexact HR
    isplitl [Hout1]; · iexact Hout1
    isplitl [Hs11]; · iexact Hs11
    isplitl [He11]; · iexact He11
    isplitl [HO]; · iexact HO
    isplitl [Ht11]; · iexact Ht11
    iexact Hd11
  iintro ⟨Hout1, Ht11, HO⟩
  -- the fourth
  iapply (wp_heads I c) $$ Hkept; iintro Hkept
  iapply (wp_publish I K c 0 3 7 rfl _ (dev8_eq c) (part I c 3) rfl (shapeCast_self _ _) _ _) $$ [Hout3 Hs03 He03 HO Ht03 Hd03]
  · isplitr; · iexact HR
    isplitl [Hout3]; · iexact Hout3
    isplitl [Hs03]; · iexact Hs03
    isplitl [He03]; · iexact He03
    isplitl [HO]; · iexact HO
    isplitl [Ht03]; · iexact Ht03
    iexact Hd03
  iintro ⟨Hout3, Ht03, HO⟩
  iapply (wp_gather I K c 0 2 8 (by decide) _ (part I c 2)) $$ [Hc02 HO Hb02 Hout2]
  · isplitr; · iexact HR
    isplitr; · iexact Hl
    isplitl [Hc02]; · iexact Hc02
    isplitl [HO]; · iexact HO
    isplitl [Hb02]; · iexact Hb02
    iexact Hout2
  iintro ⟨HO, Hb02, Hc02, Hout2⟩
  iapply (wp_publish I K c 1 2 8 rfl _ (dev9_eq c) (pair I c 2) (plus_slab _ _) (round_sum _ _) _ _) $$ [Hout2 Hs12 He12 HO Ht12 Hd12]
  · isplitr; · iexact HR
    isplitl [Hout2]; · iexact Hout2
    isplitl [Hs12]; · iexact Hs12
    isplitl [He12]; · iexact He12
    isplitl [HO]; · iexact HO
    isplitl [Ht12]; · iexact Ht12
    iexact Hd12
  iintro ⟨Hout2, Ht12, HO⟩
  iapply (wp_gather I K c 0 3 9 (by decide) _ (part I c 3)) $$ [Hc03 HO Hb03 Hout3]
  · isplitr; · iexact HR
    isplitr; · iexact Hl
    isplitl [Hc03]; · iexact Hc03
    isplitl [HO]; · iexact HO
    isplitl [Hb03]; · iexact Hb03
    iexact Hout3
  iintro ⟨HO, Hb03, Hc03, Hout3⟩
  iapply (wp_publish I K c 1 3 9 rfl _ (dev10_eq c) (pair I c 3) (plus_slab _ _) (round_sum _ _) _ _) $$ [Hout3 Hs13 He13 HO Ht13 Hd13]
  · isplitr; · iexact HR
    isplitl [Hout3]; · iexact Hout3
    isplitl [Hs13]; · iexact Hs13
    isplitl [He13]; · iexact He13
    isplitl [HO]; · iexact HO
    isplitl [Ht13]; · iexact Ht13
    iexact Hd13
  iintro ⟨Hout3, Ht13, HO⟩
  -- the last sums
  iapply (wp_gather I K c 1 0 10 (by decide) _ (pair I c 0)) $$ [Hc10 HO Hb10 Hout0]
  · isplitr; · iexact HR
    isplitr; · iexact Hl
    isplitl [Hc10]; · iexact Hc10
    isplitl [HO]; · iexact HO
    isplitl [Hb10]; · iexact Hb10
    iexact Hout0
  iintro ⟨HO, Hb10, Hc10, Hout0⟩
  iapply (wp_settle c 0 (total I c 0) (plus_slab _ _) _) $$ Hout0; iintro Hout0
  iapply (wp_gather I K c 1 1 10 (by decide) _ (pair I c 1)) $$ [Hc11 HO Hb11 Hout1]
  · isplitr; · iexact HR
    isplitr; · iexact Hl
    isplitl [Hc11]; · iexact Hc11
    isplitl [HO]; · iexact HO
    isplitl [Hb11]; · iexact Hb11
    iexact Hout1
  iintro ⟨HO, Hb11, Hc11, Hout1⟩
  iapply (wp_settle c 1 (total I c 1) (plus_slab _ _) _) $$ Hout1; iintro Hout1
  iapply (wp_gather I K c 1 2 10 (by decide) _ (pair I c 2)) $$ [Hc12 HO Hb12 Hout2]
  · isplitr; · iexact HR
    isplitr; · iexact Hl
    isplitl [Hc12]; · iexact Hc12
    isplitl [HO]; · iexact HO
    isplitl [Hb12]; · iexact Hb12
    iexact Hout2
  iintro ⟨HO, Hb12, Hc12, Hout2⟩
  iapply (wp_settle c 2 (total I c 2) (plus_slab _ _) _) $$ Hout2; iintro Hout2
  iapply (wp_gather I K c 1 3 10 (by decide) _ (pair I c 3)) $$ [Hc13 HO Hb13 Hout3]
  · isplitr; · iexact HR
    isplitr; · iexact Hl
    isplitl [Hc13]; · iexact Hc13
    isplitl [HO]; · iexact HO
    isplitl [Hb13]; · iexact Hb13
    iexact Hout3
  iintro ⟨HO, Hb13, Hc13, Hout3⟩
  iapply (wp_settle c 3 (total I c 3) (plus_slab _ _) _) $$ Hout3; iintro Hout3
  -- the sends have left
  iapply (wp_left I K c 0 0 _) $$ [Ht00 HO Ha00]
  · isplitr; · iexact HR
    isplitl [Ht00]; · iexact Ht00
    isplitl [HO]; · iexact HO
    iexact Ha00
  iintro ⟨HO, Ha00, Hs00⟩
  iapply (wp_left I K c 0 1 _) $$ [Ht01 HO Ha01]
  · isplitr; · iexact HR
    isplitl [Ht01]; · iexact Ht01
    isplitl [HO]; · iexact HO
    iexact Ha01
  iintro ⟨HO, Ha01, Hs01⟩
  iapply (wp_left I K c 0 2 _) $$ [Ht02 HO Ha02]
  · isplitr; · iexact HR
    isplitl [Ht02]; · iexact Ht02
    isplitl [HO]; · iexact HO
    iexact Ha02
  iintro ⟨HO, Ha02, Hs02⟩
  iapply (wp_left I K c 0 3 _) $$ [Ht03 HO Ha03]
  · isplitr; · iexact HR
    isplitl [Ht03]; · iexact Ht03
    isplitl [HO]; · iexact HO
    iexact Ha03
  iintro ⟨HO, Ha03, Hs03⟩
  iapply (wp_left I K c 1 0 _) $$ [Ht10 HO Ha10]
  · isplitr; · iexact HR
    isplitl [Ht10]; · iexact Ht10
    isplitl [HO]; · iexact HO
    iexact Ha10
  iintro ⟨HO, Ha10, Hs10⟩
  iapply (wp_left I K c 1 1 _) $$ [Ht11 HO Ha11]
  · isplitr; · iexact HR
    isplitl [Ht11]; · iexact Ht11
    isplitl [HO]; · iexact HO
    iexact Ha11
  iintro ⟨HO, Ha11, Hs11⟩
  iapply (wp_left I K c 1 2 _) $$ [Ht12 HO Ha12]
  · isplitr; · iexact HR
    isplitl [Ht12]; · iexact Ht12
    isplitl [HO]; · iexact HO
    iexact Ha12
  iintro ⟨HO, Ha12, Hs12⟩
  iapply (wp_left I K c 1 3 _) $$ [Ht13 HO Ha13]
  · isplitr; · iexact HR
    isplitl [Ht13]; · iexact Ht13
    isplitl [HO]; · iexact HO
    iexact Ha13
  iintro ⟨HO, Ha13, Hs13⟩
  -- every counter is back at zero
  rw [wp_ret]
  imod (cell_done I K c none) $$ [Hba] with Hba
  · isplitr; · iexact HR
    iexact Hba
  imod (cell_done I K c (some (false, 0, 0))) $$ [Ha00] with Ha00
  · isplitr; · iexact HR
    iexact Ha00
  imod (cell_done I K c (some (true, 0, 0))) $$ [Hb00] with Hb00
  · isplitr; · iexact HR
    iexact Hb00
  imod (cell_done I K c (some (false, 0, 1))) $$ [Ha01] with Ha01
  · isplitr; · iexact HR
    iexact Ha01
  imod (cell_done I K c (some (true, 0, 1))) $$ [Hb01] with Hb01
  · isplitr; · iexact HR
    iexact Hb01
  imod (cell_done I K c (some (false, 0, 2))) $$ [Ha02] with Ha02
  · isplitr; · iexact HR
    iexact Ha02
  imod (cell_done I K c (some (true, 0, 2))) $$ [Hb02] with Hb02
  · isplitr; · iexact HR
    iexact Hb02
  imod (cell_done I K c (some (false, 0, 3))) $$ [Ha03] with Ha03
  · isplitr; · iexact HR
    iexact Ha03
  imod (cell_done I K c (some (true, 0, 3))) $$ [Hb03] with Hb03
  · isplitr; · iexact HR
    iexact Hb03
  imod (cell_done I K c (some (false, 1, 0))) $$ [Ha10] with Ha10
  · isplitr; · iexact HR
    iexact Ha10
  imod (cell_done I K c (some (true, 1, 0))) $$ [Hb10] with Hb10
  · isplitr; · iexact HR
    iexact Hb10
  imod (cell_done I K c (some (false, 1, 1))) $$ [Ha11] with Ha11
  · isplitr; · iexact HR
    iexact Ha11
  imod (cell_done I K c (some (true, 1, 1))) $$ [Hb11] with Hb11
  · isplitr; · iexact HR
    iexact Hb11
  imod (cell_done I K c (some (false, 1, 2))) $$ [Ha12] with Ha12
  · isplitr; · iexact HR
    iexact Ha12
  imod (cell_done I K c (some (true, 1, 2))) $$ [Hb12] with Hb12
  · isplitr; · iexact HR
    iexact Hb12
  imod (cell_done I K c (some (false, 1, 3))) $$ [Ha13] with Ha13
  · isplitr; · iexact HR
    iexact Ha13
  imod (cell_done I K c (some (true, 1, 3))) $$ [Hb13] with Hb13
  · isplitr; · iexact HR
    iexact Hb13
  imodintro
  iapply Hpost
  unfold runPost operands heads8 chunks4 keptAll kept
  icases Hkept with ⟨⟨Hk0, Hv0⟩, ⟨Hk1, Hv1⟩, ⟨Hk2, Hv2⟩, ⟨Hk3, Hv3⟩, ⟨Hk4, Hv4⟩, ⟨Hk5, Hv5⟩, ⟨Hk6, Hv6⟩, ⟨Hk7, Hv7⟩⟩
  isplitl [HO]; · iexists _; iexact HO
  isplitl [Hx Hq Ho]
  · isplitl [Hx]; · iexact Hx
    isplitl [Hq] <;> iassumption
  isplitl [Hba]; · iexact Hba
  isplitl [Hi0 Hk0 Hv0 Hi1 Hk1 Hv1 Hi2 Hk2 Hv2 Hi3 Hk3 Hv3 Hi4 Hk4 Hv4 Hi5 Hk5 Hv5 Hi6 Hk6 Hv6 Hi7 Hk7 Hv7]
  · isplitl [Hi0 Hk0 Hv0]; · iapply (place_back I c 0 _ _) $$ Hi0 Hk0 Hv0
    isplitl [Hi1 Hk1 Hv1]; · iapply (place_back I c 1 _ _) $$ Hi1 Hk1 Hv1
    isplitl [Hi2 Hk2 Hv2]; · iapply (place_back I c 2 _ _) $$ Hi2 Hk2 Hv2
    isplitl [Hi3 Hk3 Hv3]; · iapply (place_back I c 3 _ _) $$ Hi3 Hk3 Hv3
    isplitl [Hi4 Hk4 Hv4]; · iapply (place_back I c 4 _ _) $$ Hi4 Hk4 Hv4
    isplitl [Hi5 Hk5 Hv5]; · iapply (place_back I c 5 _ _) $$ Hi5 Hk5 Hv5
    isplitl [Hi6 Hk6 Hv6]; · iapply (place_back I c 6 _ _) $$ Hi6 Hk6 Hv6
    iapply (place_back I c 7 _ _) $$ Hi7 Hk7 Hv7
  isplitl [Hout0 Hout1 Hout2 Hout3]
  · isplitl [Hout0]; · iexact Hout0
    isplitl [Hout1]; · iexact Hout1
    isplitl [Hout2] <;> iassumption
  isplitl [Hs00 Hc00 Ha00 Hb00 Hs01 Hc01 Ha01 Hb01 Hs02 Hc02 Ha02 Hb02 Hs03 Hc03 Ha03 Hb03]
  · isplitl [Hs00 Hc00 Ha00 Hb00]; · iapply (spent_back c 0 0 _) $$ Hs00 Hc00 Ha00 Hb00
    isplitl [Hs01 Hc01 Ha01 Hb01]; · iapply (spent_back c 0 1 _) $$ Hs01 Hc01 Ha01 Hb01
    isplitl [Hs02 Hc02 Ha02 Hb02]; · iapply (spent_back c 0 2 _) $$ Hs02 Hc02 Ha02 Hb02
    iapply (spent_back c 0 3 _) $$ Hs03 Hc03 Ha03 Hb03
  isplitl [Hs10 Hc10 Ha10 Hb10]; · iapply (spent_back c 1 0 _) $$ Hs10 Hc10 Ha10 Hb10
  isplitl [Hs11 Hc11 Ha11 Hb11]; · iapply (spent_back c 1 1 _) $$ Hs11 Hc11 Ha11 Hb11
  isplitl [Hs12 Hc12 Ha12 Hb12]; · iapply (spent_back c 1 2 _) $$ Hs12 Hc12 Ha12 Hb12
  iapply (spent_back c 1 3 _) $$ Hs13 Hc13 Ha13 Hb13

end Cert.KernelIdealProof

end
-- ==== Proof.KernelIdeal.Pieces.lean ====
/-
# Buffers held piece by piece

The launch hands a device its buffers whole; its run holds them by chunks of rows and by heads. Here each is cut into its
pieces, and the pieces are put together again.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

/-! ## Any family of rectangles -/

section Family

variable {sp : Space} {s : Shape} {e : EltTy} (M : Memref sig .tc sp s e) (hM : M.view.set = Finset.univ) {B : Type} [Fintype B] [DecidableEq B]
  (R : B → Rect s) (hR : ∀ i a, (R i).stride a = 1) (hd : ∀ i j, i ≠ j → Disjoint (R i).set (R j).set) (hc : ∀ x, ∃ i, x ∈ (R i).set)

/-- The elements of a piece. -/
abbrev pieceSet (i : B) : Finset (Idx (M.view.loc (c : Thread nD τ))) := M.view.setOn (R i).set

omit [FloatOps F] [Fintype B] [DecidableEq B] in
include hd in
theorem pieces_disjoint (i j : B) (h : i ≠ j) : Disjoint (pieceSet c M R i) (pieceSet c M R j) := (Finset.disjoint_map _).mpr (hd i j h)

omit [FloatOps F] [DecidableEq B] in
include hM hc in
theorem pieces_cover : Finset.univ.biUnion (pieceSet c M R) = Finset.univ := by
  refine Finset.eq_univ_iff_forall.mpr fun y => ?_
  have hy : y ∈ M.view.set := hM ▸ Finset.mem_univ y
  obtain ⟨x, -, rfl⟩ := Finset.mem_map.mp hy
  obtain ⟨i, hi⟩ := hc x
  exact Finset.mem_biUnion.mpr ⟨i, Finset.mem_univ i, Finset.mem_map_of_mem _ hi⟩

omit [FloatOps F] [Fintype B] [DecidableEq B] in
/-- Owning a piece is holding its elements at contents that read as said. -/
theorem piece_owns (i : B) (X : (R i).shape.Idx → Elt F e) : (owns (c : Thread nD τ) (M.slice (R i) (hR i)) fullShare X : sProp 𝕄)
    = iprop(∃ f, ⌜(M.slice (R i) (hR i)).view.read (Elt F) f = X⌝ ∗ M.view.loc (c : Thread nD τ) ↦[pieceSet c M R i]{fullShare} f) := by
  unfold owns
  rw [show (M.slice (R i) (hR i)).view.set = pieceSet c M R i from View.set_slice M.view (R i)]

include hM hd hc in
/-- A whole buffer is its pieces, -/
theorem pieces_open (f : Buf (Elt F) (M.view.loc (c : Thread nD τ))) :
    (M.view.loc (c : Thread nD τ) ↦{fullShare} f : sProp 𝕄) ⊢ bigSep Finset.univ fun i : B => iprop(∃ X, owns (c : Thread nD τ) (M.slice (R i) (hR i)) fullShare X) := by
  have e := pointsTo_biUnion (q := fullShare) (f := f) (Ix := Unit) (Name := ℕ) (U := UU) (Lvl := ℕ) Finset.univ (pieceSet c M R) fun i _ j _ h => pieces_disjoint c M R hd i j h
  rw [pieces_cover c M hM R hc] at e
  rw [e]
  refine bigSep_mono fun i _ => ?_
  simp only [piece_owns]
  show (M.view.loc (c : Thread nD τ) ↦[pieceSet c M R i]{fullShare} f : sProp 𝕄) ⊢ _
  iintro H
  iexists _, f
  isplitr
  · ipureintro; rfl
  · iexact H

include hM hd hc in
/-- and pieces with given contents are the whole buffer at contents that read so. -/
theorem pieces_close (X : ∀ i : B, (R i).shape.Idx → Elt F e) (f₀ : Buf (Elt F) (M.view.loc (c : Thread nD τ))) :
    (bigSep Finset.univ fun i : B => (owns (c : Thread nD τ) (M.slice (R i) (hR i)) fullShare (X i) : sProp 𝕄))
      ⊢ iprop(∃ f, ⌜∀ i, (M.slice (R i) (hR i)).view.read (Elt F) f = X i⌝ ∗ M.view.loc (c : Thread nD τ) ↦{fullShare} f) := by
  have : Nonempty (Buf (Elt F) (M.view.loc (c : Thread nD τ))) := ⟨f₀⟩
  simp only [piece_owns]
  refine (Idealize.SL.BI.bigSep_exists_pi Finset.univ (fun (i : B) (f : Buf (Elt F) (M.view.loc (c : Thread nD τ))) =>
    (iprop(⌜(M.slice (R i) (hR i)).view.read (Elt F) f = X i⌝ ∗ M.view.loc (c : Thread nD τ) ↦[pieceSet c M R i]{fullShare} f) : sProp 𝕄))).trans ?_
  iintro ⟨%fs, H⟩
  ihave H := (bigSep_pure_sep Finset.univ (fun i : B => (M.slice (R i) (hR i)).view.read (Elt F) (fs i) = X i) _) $$ H
  icases H with ⟨%hp, H⟩
  ihave H := ((pointsTo_biUnion_join Finset.univ (pieceSet c M R) fs f₀ (fun i _ j _ h => pieces_disjoint c M R hd i j h)).trans
    (Entails.of_eq (by rw [pieces_cover c M hM R hc]))) $$ H
  icases H with ⟨%g, %hg, H⟩
  iexists g
  isplitr
  · ipureintro
    intro i
    rw [← hp i (Finset.mem_univ i)]
    exact View.read_congr fun x hx => hg i (Finset.mem_univ i) x ((View.set_slice M.view (R i)).le hx)
  · iexact H

include hM hd hc in
/-- Pieces of unknown contents are the whole buffer at some. -/
theorem pieces_close_some (f₀ : Buf (Elt F) (M.view.loc (c : Thread nD τ))) :
    (bigSep Finset.univ fun i : B => (iprop(∃ X, owns (c : Thread nD τ) (M.slice (R i) (hR i)) fullShare X) : sProp 𝕄))
      ⊢ iprop(∃ f, M.view.loc (c : Thread nD τ) ↦{fullShare} f) := by
  have : ∀ i : B, Nonempty ((R i).shape.Idx → Elt F e) := fun i => ⟨(M.slice (R i) (hR i)).view.read (Elt F) f₀⟩
  refine (Idealize.SL.BI.bigSep_exists_pi Finset.univ (fun (i : B) (X : (R i).shape.Idx → Elt F e) => (owns (c : Thread nD τ) (M.slice (R i) (hR i)) fullShare X : sProp 𝕄))).trans ?_
  iintro ⟨%X, H⟩
  ihave H := (pieces_close c M hM R hR hd hc X f₀) $$ H
  icases H with ⟨%f, -, H⟩
  iexists f; iexact H

end Family

theorem chunks4_eq (Φ : Fin 4 → sProp 𝕄) : bigSep Finset.univ Φ = chunks4 Φ := bigSep_univ_eq_bigSepL [0, 1, 2, 3] (by decide) (by decide) Φ
theorem heads8_eq (Φ : Fin 8 → sProp 𝕄) : bigSep Finset.univ Φ = heads8 Φ := bigSep_univ_eq_bigSepL [0, 1, 2, 3, 4, 5, 6, 7] (by decide) (by decide) Φ

/-! ## Chunks of rows -/

theorem row_disjoint (i j : Fin 4) (h : i ≠ j) : Disjoint (rowR i).set (rowR j).set := by
  refine Finset.disjoint_left.mpr fun x hx hy => h (Fin.ext ?_)
  have h1 : 128 * i.val ≤ (x 0).val ∧ (x 0).val < 128 * i.val + 128 := Rect.mem_set_unit.mp hx 0
  have h2 : 128 * j.val ≤ (x 0).val ∧ (x 0).val < 128 * j.val + 128 := Rect.mem_set_unit.mp hy 0
  omega

theorem row_cover (x : S512x1024.Idx) : ∃ k, x ∈ (rowR k).set := by
  have h0 : (x 0).val < 512 := (x 0).isLt
  have h1 : (x 1).val < 1024 := (x 1).isLt
  refine ⟨⟨(x 0).val / 128, by omega⟩, Rect.mem_set_unit.mpr fun a => ?_⟩
  match a with
  | ⟨0, _⟩ => exact (show 128 * ((x 0).val / 128) ≤ (x 0).val ∧ (x 0).val < 128 * ((x 0).val / 128) + 128 from by omega)
  | ⟨1, _⟩ => exact (show 0 ≤ (x 1).val ∧ (x 1).val < 0 + 1024 from by omega)

theorem rows_open {e : EltTy} (M : Memref sig .tc .vmem S512x1024 e) (hM : M.view.set = Finset.univ) (f : Buf (Elt F) (M.view.loc (c : Thread nD τ))) :
    (M.view.loc (c : Thread nD τ) ↦{fullShare} f : sProp 𝕄) ⊢ chunks4 fun k => iprop(∃ X, owns (c : Thread nD τ) (M.slice (rowR k) (fun _ => rfl)) fullShare X) :=
  (pieces_open c M hM rowR (fun _ _ => rfl) row_disjoint row_cover f).trans (Entails.of_eq (chunks4_eq _))

theorem rows_close {e : EltTy} (M : Memref sig .tc .vmem S512x1024 e) (hM : M.view.set = Finset.univ) (f₀ : Buf (Elt F) (M.view.loc (c : Thread nD τ))) :
    (chunks4 fun k => iprop(∃ X, owns (c : Thread nD τ) (M.slice (rowR k) (fun _ => rfl)) fullShare X)) ⊢ (iprop(∃ f, M.view.loc (c : Thread nD τ) ↦{fullShare} f) : sProp 𝕄) :=
  (Entails.of_eq (chunks4_eq _).symm).trans (pieces_close_some c M hM rowR (fun _ _ => rfl) row_disjoint row_cover f₀)

/-- An array whose chunks of rows are known. -/
theorem stack_of_rows (V : Fin 4 → Vec F S128x1024 .f32) (f : Vec F S512x1024 .f32) (h : ∀ k, (outAt k).view.read (Elt F) f = V k) : f = stack V := by
  funext i
  have h0 : (i 0).val < 512 := (i 0).isLt
  unfold stack
  rw [← h]
  show f i = f ((rowR _).emb _)
  congr 1
  funext a
  apply Fin.ext
  match a with
  | ⟨0, _⟩ => exact (show (i 0).val = 128 * ((i 0).val / 128) + 1 * ((i 0).val % 128) from by omega)
  | ⟨1, _⟩ => exact (show (i 1).val = 0 + 1 * (i 1).val from by omega)

/-- The four chunks of the result are the whole result. -/
theorem out_close (V : Fin 4 → Vec F S128x1024 .f32) :
    (chunks4 fun k => owns (c : Thread nD τ) (outAt k) fullShare (V k)) ⊢ (iprop(outM.view.loc (c : Thread nD τ) ↦{fullShare} stack V) : sProp 𝕄) := by
  refine (Entails.of_eq (chunks4_eq _).symm).trans ((pieces_close c outM (View.set_whole _) rowR (fun _ _ => rfl) row_disjoint row_cover V (stack V)).trans ?_)
  iintro ⟨%f, %hf, H⟩
  rw [← stack_of_rows V f hf]
  iexact H

/-! ## The landing buffer -/

theorem slab_disjoint (i j : Fin 2 × Fin 4) (h : i ≠ j) : Disjoint (slabR i.1 i.2).set (slabR j.1 j.2).set := by
  refine Finset.disjoint_left.mpr fun x hx hy => h ?_
  have h1 : i.1.val ≤ (x 0).val ∧ (x 0).val < i.1.val + 1 := Rect.mem_set_unit.mp hx 0
  have h2 : j.1.val ≤ (x 0).val ∧ (x 0).val < j.1.val + 1 := Rect.mem_set_unit.mp hy 0
  have h3 : 128 * i.2.val ≤ (x 1).val ∧ (x 1).val < 128 * i.2.val + 128 := Rect.mem_set_unit.mp hx 1
  have h4 : 128 * j.2.val ≤ (x 1).val ∧ (x 1).val < 128 * j.2.val + 128 := Rect.mem_set_unit.mp hy 1
  exact Prod.ext (Fin.ext (by omega)) (Fin.ext (by omega))

theorem slab_cover (x : S2x512x1024.Idx) : ∃ i : Fin 2 × Fin 4, x ∈ (slabR i.1 i.2).set := by
  have h0 : (x 0).val < 2 := (x 0).isLt
  have h1 : (x 1).val < 512 := (x 1).isLt
  have h2 : (x 2).val < 1024 := (x 2).isLt
  refine ⟨(⟨(x 0).val, h0⟩, ⟨(x 1).val / 128, by omega⟩), Rect.mem_set_unit.mpr fun a => ?_⟩
  match a with
  | ⟨0, _⟩ => exact (show (x 0).val ≤ (x 0).val ∧ (x 0).val < (x 0).val + 1 from by omega)
  | ⟨1, _⟩ => exact (show 128 * ((x 1).val / 128) ≤ (x 1).val ∧ (x 1).val < 128 * ((x 1).val / 128) + 128 from by omega)
  | ⟨2, _⟩ => exact (show 0 ≤ (x 2).val ∧ (x 2).val < 0 + 1024 from by omega)

/-- A window held is its elements held. -/
theorem owns_some {sp : Space} {s : Shape} {e : EltTy} (W : Memref sig .tc sp s e) :
    (iprop(∃ X, owns (c : Thread nD τ) W fullShare X) : sProp 𝕄) = iprop(∃ f, W.view.loc (c : Thread nD τ) ↦[W.view.set]{fullShare} f) := by
  have h1 : (iprop(∃ X, owns (c : Thread nD τ) W fullShare X) : sProp 𝕄) ⊢ iprop(∃ f, W.view.loc (c : Thread nD τ) ↦[W.view.set]{fullShare} f) := by
    unfold owns
    iintro ⟨%X, %f, -, H⟩
    iexists f; iexact H
  have h2 : (iprop(∃ f, W.view.loc (c : Thread nD τ) ↦[W.view.set]{fullShare} f) : sProp 𝕄) ⊢ iprop(∃ X, owns (c : Thread nD τ) W fullShare X) := by
    unfold owns
    iintro ⟨%f, H⟩
    iexists _, f
    isplitr; · ipureintro; rfl
    iexact H
  exact BI.Entails.antisymm h1 h2

/-- Dropping a unit axis from a window changes how it reads, not what it holds. -/
theorem squeeze_owns {sp : Space} {s s' : Shape} {e : EltTy} (W : Memref sig .tc sp s e) (h : s.Squeezes s') :
    (iprop(∃ X, owns (c : Thread nD τ) W fullShare X) : sProp 𝕄) = iprop(∃ X, owns (c : Thread nD τ) (W.squeeze s' h) fullShare X) := by
  rw [owns_some, owns_some, show (W.squeeze s' h).view.set = W.view.set from View.set_reshape W.view _]

/-- The landing buffer's eight chunks. -/
theorem land_eq : (bigSep Finset.univ fun i : Fin 2 × Fin 4 => iprop(∃ X, owns (c : Thread nD τ) (landM.slice (slabR i.1 i.2) (fun _ => rfl)) fullShare X) : sProp 𝕄)
    = iprop((chunks4 fun k => iprop(∃ X, owns (c : Thread nD τ) (landAt 0 k) fullShare X)) ∗ chunks4 fun k => iprop(∃ X, owns (c : Thread nD τ) (landAt 1 k) fullShare X)) := by
  rw [bigSep_univ_prod, bigSep_univ_eq_bigSepL [0, 1] (by decide) (by decide)]
  show iprop((bigSep Finset.univ fun k : Fin 4 => iprop(∃ X, owns (c : Thread nD τ) (landM.slice (slabR 0 k) (fun _ => rfl)) fullShare X))
    ∗ bigSep Finset.univ fun k : Fin 4 => iprop(∃ X, owns (c : Thread nD τ) (landM.slice (slabR 1 k) (fun _ => rfl)) fullShare X)) = _
  rw [chunks4_eq, chunks4_eq]
  simp only [squeeze_owns c (landM.slice (slabR _ _) (fun _ => rfl)) squeezes_S1x128x1024_S128x1024]

theorem land_open (f : Buf (Elt F) (landM.view.loc (c : Thread nD τ))) : (landM.view.loc (c : Thread nD τ) ↦{fullShare} f : sProp 𝕄) ⊢ iprop(barPay c 0 ∗ barPay c 1) := by
  rw [barPay_eq, barPay_eq, ← land_eq]
  exact pieces_open c landM (View.set_whole _) (fun i : Fin 2 × Fin 4 => slabR i.1 i.2) (fun _ _ => rfl) slab_disjoint slab_cover f

theorem land_close (f₀ : Buf (Elt F) (landM.view.loc (c : Thread nD τ))) : (iprop(barPay c 0 ∗ barPay c 1) : sProp 𝕄) ⊢ iprop(∃ f, landM.view.loc (c : Thread nD τ) ↦{fullShare} f) := by
  rw [barPay_eq, barPay_eq, ← land_eq]
  exact pieces_close_some c landM (View.set_whole _) (fun i : Fin 2 × Fin 4 => slabR i.1 i.2) (fun _ _ => rfl) slab_disjoint slab_cover f₀

/-! ## Heads -/

theorem head_disjoint (i j : Fin 8) (h : i ≠ j) : Disjoint (headR i).set (headR j).set := by
  refine Finset.disjoint_left.mpr fun x hx hy => h (Fin.ext ?_)
  have h1 : i.val ≤ (x 0).val ∧ (x 0).val < i.val + 1 := Rect.mem_set_unit.mp hx 0
  have h2 : j.val ≤ (x 0).val ∧ (x 0).val < j.val + 1 := Rect.mem_set_unit.mp hy 0
  omega

theorem head_cover (x : S8x2048x128.Idx) : ∃ k, x ∈ (headR k).set := by
  have h0 : (x 0).val < 8 := (x 0).isLt
  have h1 : (x 1).val < 2048 := (x 1).isLt
  have h2 : (x 2).val < 128 := (x 2).isLt
  refine ⟨⟨(x 0).val, h0⟩, Rect.mem_set_unit.mpr fun a => ?_⟩
  match a with
  | ⟨0, _⟩ => exact (show (x 0).val ≤ (x 0).val ∧ (x 0).val < (x 0).val + 1 from by omega)
  | ⟨1, _⟩ => exact (show 0 ≤ (x 1).val ∧ (x 1).val < 0 + 2048 from by omega)
  | ⟨2, _⟩ => exact (show 0 ≤ (x 2).val ∧ (x 2).val < 0 + 128 from by omega)

theorem heads_open {e : EltTy} (M : Memref sig .tc .vmem S8x2048x128 e) (hM : M.view.set = Finset.univ) (f : Buf (Elt F) (M.view.loc (c : Thread nD τ))) :
    (M.view.loc (c : Thread nD τ) ↦{fullShare} f : sProp 𝕄) ⊢ heads8 fun h => iprop(∃ X, owns (c : Thread nD τ) (M.slice (headR h) (fun _ => rfl)) fullShare X) :=
  (pieces_open c M hM headR (fun _ _ => rfl) head_disjoint head_cover f).trans (Entails.of_eq (heads8_eq _))

theorem heads_close {e : EltTy} (M : Memref sig .tc .vmem S8x2048x128 e) (hM : M.view.set = Finset.univ) (f₀ : Buf (Elt F) (M.view.loc (c : Thread nD τ))) :
    (heads8 fun h => iprop(∃ X, owns (c : Thread nD τ) (M.slice (headR h) (fun _ => rfl)) fullShare X)) ⊢ (iprop(∃ f, M.view.loc (c : Thread nD τ) ↦{fullShare} f) : sProp 𝕄) :=
  (Entails.of_eq (heads8_eq _).symm).trans (pieces_close_some c M hM headR (fun _ _ => rfl) head_disjoint head_cover f₀)

/-- A slot without its unit axis. -/
theorem head_slot (M : Memref sig .tc .vmem S8x2048x128 .f32) (h : Fin 8) :
    (iprop(∃ X, owns (c : Thread nD τ) (M.slice (headR h) (fun _ => rfl)) fullShare X) : sProp 𝕄)
      = iprop(∃ f, ((M.slice (headR h) (fun _ => rfl)).squeeze S2048x128 squeezes_S1x2048x128_S2048x128).view.loc (c : Thread nD τ)
          ↦[((M.slice (headR h) (fun _ => rfl)).squeeze S2048x128 squeezes_S1x2048x128_S2048x128).view.set]{fullShare} f) := by
  exact (squeeze_owns c (M.slice (headR h) (fun _ => rfl)) squeezes_S1x2048x128_S2048x128).trans (owns_some c _)

/-! ## A device's heads of the key and value arrays -/

theorem src_disjoint (i j : Fin 8) (h : i ≠ j) : Disjoint (srcR c i).set (srcR c j).set := by
  refine Finset.disjoint_left.mpr fun x hx hy => h (Fin.ext ?_)
  have h1 := Rect.mem_set_unit.mp hx 1
  have h2 := Rect.mem_set_unit.mp hy 1
  rw [k0_off1_eq] at h1 h2
  have h1' : 8 * c.val + i.val ≤ (x 1).val ∧ (x 1).val < 8 * c.val + i.val + 1 := h1
  have h2' : 8 * c.val + j.val ≤ (x 1).val ∧ (x 1).val < 8 * c.val + j.val + 1 := h2
  omega

/-- The elements of the device's eight heads. -/
def ownHeads (M : Memref sig .tc .hbm S2048x32x128 .f32) : Finset (Idx (M.view.loc (c : Thread nD τ))) := Finset.univ.biUnion (pieceSet c M (srcR c))

/-- An array is the device's eight heads and the rest. -/
theorem src_eq (M : Memref sig .tc .hbm S2048x32x128 .f32) (f : Buf (Elt F) (M.view.loc (c : Thread nD τ))) :
    (M.view.loc (c : Thread nD τ) ↦{fullShare} f : sProp 𝕄)
      = iprop((heads8 fun h => M.view.loc (c : Thread nD τ) ↦[((M.slice (srcR c h) (fun _ => rfl)).squeeze S2048x128 squeezes_S2048x1x128_S2048x128).view.set]{fullShare} f)
          ∗ M.view.loc (c : Thread nD τ) ↦[Finset.univ \ ownHeads c M]{fullShare} f) := by
  have e := pointsTo_biUnion (q := fullShare) (f := f) (Ix := Unit) (Name := ℕ) (U := UU) (Lvl := ℕ) Finset.univ (pieceSet c M (srcR c)) fun i _ j _ h => pieces_disjoint c M (srcR c) (src_disjoint c) i j h
  have hs : ∀ h, ((M.slice (srcR c h) (fun _ => rfl)).squeeze S2048x128 squeezes_S2048x1x128_S2048x128).view.set = pieceSet c M (srcR c) h := fun h =>
    (View.set_reshape _ _).trans (View.set_slice M.view (srcR c h))
  simp only [hs]
  rw [← heads8_eq, ← e]
  have hb := pointsTo_split_subset (q := fullShare) (f := f) (Ix := Unit) (Name := ℕ) (U := UU) (Lvl := ℕ) (Finset.subset_univ (ownHeads c M))
  exact BI.Entails.antisymm hb.1 hb.2

end Cert.KernelIdealProof

end
-- ==== Proof.KernelIdeal.Ghost.lean ====
/-
# The exchange's ghost state at launch

All devices' semaphores of the exchange are opened at once, and the duties are dealt to the devices that fulfil them: a
barrier's two to the two partners, a receive semaphore's to the partner that copies to it. The launch's credit is what the
devices owe one another.
-/
module

public import proofs.«01_k».proof.Proof.KernelIdeal.Pieces
public import Idealize.ShloMosaic.Lib.Pipeline.Kit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Exchange and chunk. -/
abbrev Sk : Type := Fin 2 × Fin 4

variable (I : Inputs F)

/-! ## Families over the cells -/

theorem lanes_eq (Φ : Fin 2 → Fin 4 → sProp 𝕄) : (bigSep Finset.univ fun i : Sk => Φ i.1 i.2) = iprop(chunks4 (Φ 0) ∗ chunks4 (Φ 1)) := by
  rw [bigSep_univ_prod, bigSep_univ_eq_bigSepL [0, 1] (by decide) (by decide)]
  show iprop((bigSep Finset.univ fun k : Fin 4 => Φ 0 k) ∗ bigSep Finset.univ fun k : Fin 4 => Φ 1 k) = _
  rw [chunks4_eq, chunks4_eq]

theorem bools_eq {X : Type} [Fintype X] [DecidableEq X] (Φ : Bool × X → sProp 𝕄) :
    bigSep Finset.univ Φ = iprop((bigSep Finset.univ fun x => Φ (false, x)) ∗ bigSep Finset.univ fun x => Φ (true, x)) := by
  rw [bigSep_univ_prod, bigSep_univ_eq_bigSepL [false, true] (by decide) (by decide)]; rfl

/-- The barrier's cell, and the others. -/
theorem cells_eq (Φ : Cl → sProp 𝕄) : bigSep Finset.univ Φ = iprop(Φ none ∗ bigSep Finset.univ fun x : Bool × Sk => Φ (some x)) := by
  rw [bigSep_univ_equiv (Equiv.optionEquivSumPUnit.{0, 0} (Bool × Sk)).symm Φ, bigSep_univ_sum, bigSep_univ_of_subsingleton (PUnit.unit : PUnit.{1})]
  have h (A B : sProp 𝕄) : iprop(A ∗ B) = iprop(B ∗ A) := BI.Entails.antisymm BI.sep_comm BI.sep_comm
  exact h (bigSep Finset.univ fun x : Bool × Sk => Φ (some x)) (Φ none)

/-! ## The cells and the duties -/

/-- The semaphores of a device's fetches, and of its copies to other devices. -/
abbrev Own : Type := (Bool × Fin 8) ⊕ (Bool × Sk)
abbrev osem : Own → SemLoc sig
  | .inl (false, h) => .dma (keyS h)
  | .inl (true, h) => .dma (valS h)
  | .inr x => csem (some x)

theorem ownSemFacts : Pipeline.OwnSemFacts cfg0.spec osem := by decide +kernel

theorem csem_injective : Function.Injective csem := by decide +kernel

theorem kcell_injective : Function.Injective (kcell : Dev nD × Cl → GSem nD τ sig) := by
  rintro ⟨c, k⟩ ⟨c', k'⟩ h
  have h1 : c = c' := congrArg (fun g : GSem nD τ sig => g.1.1) h
  subst h1
  exact congrArg (Prod.mk c) (csem_injective (congrArg Prod.snd h))

def ringCells : Finset (GSem nD τ sig) := Finset.univ.map ⟨kcell, kcell_injective⟩
def ringToks : Finset (GSem nD τ sig × ℕ × Bool) :=
  Finset.univ.map ⟨fun x : (Dev nD × Cl) × Bool => (kcell x.1, 0, x.2), fun x y h => by
    have h1 := kcell_injective (congrArg Prod.fst h)
    have h2 : x.2 = y.2 := congrArg (fun z => z.2.2) h
    exact Prod.ext h1 h2⟩

/-- The launch's ghost state: the pipeline's, the exchange's, no fetch counted yet. -/
def u₀ : UU := (initOf (Pipeline.cells cfgs cellOf_inj) (Pipeline.launchToks cfgs cellOf_inj), (initOf ringCells ringToks, 1))

/-- A device's duties before they are dealt. -/
def toks (c : Dev nD) : sProp 𝕄 := bigSep Finset.univ fun k : Cl => bigSep Finset.univ fun d : Bool => dutyTok ER (kcell (c, k)) 0 d

def G (c : Dev nD) : sProp 𝕄 :=
  iprop((bigSep Finset.univ fun k : Cl => roundState ER (sched I) (kcell (c, k)) 0)
    ∗ (bigSep Finset.univ fun k : Cl => iprop(atPos ER (kcell (c, k)) 0 ∅ 0 ∗ reached ER (kcell (c, k)) 0)) ∗ toks (F := F) c)

theorem fund_ring : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun k : Cl => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod, bigSep_univ_prod]; rfl
  iintro HX
  imod (Rounds.fund ER (sched I) ringCells ringToks) $$ HX with ⟨Hst, Hr, Hat, Htok⟩
  imodintro
  ihave Hst' := (Entails.of_eq (hX fun g => roundState ER (sched I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Opening the cells -/

/-- The fetches' counters at zero. -/
def fetchSems (c : Dev nD) : sProp 𝕄 := iprop((bigSep Finset.univ fun h : Fin 8 => semVal ((c : Thread nD τ), .dma (keyS h)) 0)
  ∗ bigSep Finset.univ fun h : Fin 8 => semVal ((c : Thread nD τ), .dma (valS h)) 0)

theorem ownSems0_eq (c : Dev nD) : (Pipeline.ownSems0 (Ix := Unit) (Name := ℕ) (U := UU) (Lvl := ℕ) (Val := Elt F) (τ := τ) osem c : sProp 𝕄)
    = iprop(fetchSems (F := F) c ∗ bigSep Finset.univ fun x : Bool × Sk => semVal (kcell (c, some x)) 0) := by
  unfold Pipeline.ownSems0 fetchSems
  rw [bigSep_univ_sum, bools_eq]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Cl => iprop(∃ κ : ℕ, cellInv ER (sched I) κ (kcell (c, k))))
          ∗ (bigSep Finset.univ fun k : Cl => iprop(atPos ER (kcell (c, k)) 0 ∅ 0 ∗ reached ER (kcell (c, k)) 0)) ∗ toks (F := F) c ∗ fetchSems (F := F) c) := by
  unfold G
  rw [ownSems0_eq, unscopedSems0_eq]
  iintro ⟨⟨Hf, Hv⟩, Hb, Hst, Hat, Htok⟩
  ihave Hv := (Entails.of_eq (cells_eq fun k : Cl => (semVal (kcell (c, k)) 0 : sProp 𝕄)).symm) $$ [Hb Hv]
  · isplitl [Hb] <;> iassumption
  imod (show iprop((bigSep Finset.univ fun k : Cl => semVal (kcell (c, k)) 0) ∗ bigSep Finset.univ fun k : Cl => roundState ER (sched I) (kcell (c, k)) 0)
      ⊢ (|={Set.univ}=> bigSep Finset.univ fun k : Cl => iprop(∃ κ : ℕ, cellInv ER (sched I) κ (kcell (c, k))) : sProp 𝕄) from by
        rw [← bigSep_sep']
        exact (bigSep_mono fun k _ => (Rounds.body_intro ER (sched I) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## Dealing the duties -/

/-- What a device fulfils: its partners' barrier duties, its own sends, its partners' receives. -/
def payToks (c : Dev nD) : sProp 𝕄 := iprop((bigSep Finset.univ fun s : Fin 2 => dutyTok ER (barCell (peer c s)) 0 (dutyOf s))
  ∗ (bigSep Finset.univ fun i : Sk => dutyTok ER (sendCell c i.1 i.2) 0 false) ∗ bigSep Finset.univ fun i : Sk => dutyTok ER (recvCell (peer c i.1) i.1 i.2) 0 false)

/-- A device's duties kept by kind. -/
theorem toks_sort (c : Dev nD) : toks (F := F) c ⊢ iprop((bigSep Finset.univ fun s : Fin 2 => dutyTok ER (barCell c) 0 (dutyOf s))
    ∗ (bigSep Finset.univ fun i : Sk => dutyTok ER (sendCell c i.1 i.2) 0 false) ∗ bigSep Finset.univ fun i : Sk => dutyTok ER (recvCell c i.1 i.2) 0 false) := by
  unfold toks
  rw [cells_eq, bools_eq, bigSep_univ_eq_bigSepL [false, true] (by decide) (by decide), bigSep_univ_eq_bigSepL [(0 : Fin 2), 1] (by decide) (by decide)]
  refine BI.sep_mono (BI.Entails.refl _) (BI.sep_mono ?_ ?_) <;> exact bigSep_mono fun i _ => bigSep_elim (Finset.mem_univ false)

/-- The exchange of devices along a family that keeps its second index. -/
def across (X : Type) (f : X → Fin 2) : Dev nD × X ≃ Dev nD × X := ⟨fun p => (peer p.1 (f p.2), p.2), fun p => (peer p.1 (f p.2), p.2),
  fun p => by show (peer (peer p.1 (f p.2)) (f p.2), p.2) = p; rw [peer_peer], fun p => by show (peer (peer p.1 (f p.2)) (f p.2), p.2) = p; rw [peer_peer]⟩

/-- What every device holds for each of its partners is what every device's partners hold for it. -/
theorem deal (X : Type) [Fintype X] [DecidableEq X] (f : X → Fin 2) (Φ : Dev nD → X → sProp 𝕄) :
    (bigSep Finset.univ fun c : Dev nD => bigSep Finset.univ fun x : X => Φ c x) = bigSep Finset.univ fun c : Dev nD => bigSep Finset.univ fun x : X => Φ (peer c (f x)) x := by
  rw [← bigSep_univ_prod (fun p : Dev nD × X => Φ p.1 p.2), bigSep_univ_equiv (across X f), bigSep_univ_prod]; rfl

theorem toks_around : (bigSep Finset.univ fun c : Dev nD => toks (F := F) c) ⊢ bigSep Finset.univ fun c : Dev nD => payToks (F := F) c := by
  refine (bigSep_mono fun c _ => toks_sort c).trans ?_
  unfold payToks
  rw [bigSep_sep', bigSep_sep', bigSep_sep', bigSep_sep']
  refine BI.sep_mono (Entails.of_eq (deal (Fin 2) id fun c s => dutyTok ER (barCell c) 0 (dutyOf s))) (BI.sep_mono (BI.Entails.refl _) ?_)
  exact Entails.of_eq (deal Sk Prod.fst fun c i => dutyTok ER (recvCell c i.1 i.2) 0 false)

/-! ## What a device starts with -/

/-- Its positions and duties, and its fetches' counters. -/
def mine (c : Dev nD) : sProp 𝕄 := iprop((bigSep Finset.univ fun k : Cl => atPos ER (kcell (c, k)) 0 ∅ 0) ∗ payToks (F := F) c ∗ fetchSems (F := F) c)
def G' (c : Dev nD) : sProp 𝕄 := iprop((∃ K, records I K) ∗ mine (F := F) c)

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cl => iprop(∃ κ : ℕ, cellInv ER (sched I) κ (kcell (c, k))))
          ∗ (bigSep Finset.univ fun k : Cl => iprop(atPos ER (kcell (c, k)) 0 ∅ 0 ∗ reached ER (kcell (c, k)) 0)) ∗ toks (F := F) c ∗ fetchSems (F := F) c) : sProp 𝕄)
      ⊢ bigSep Finset.univ (G' I) := by
  rw [bigSep_sep', bigSep_sep', bigSep_sep', ← bigSep_univ_prod (fun ck : Dev nD × Cl => iprop(∃ κ : ℕ, cellInv ER (sched I) κ (kcell ck))),
    bigSep_congr (s := Finset.univ) (fun (c : Dev nD) _ => bigSep_sep' Finset.univ (fun k : Cl => (atPos ER (kcell (c, k)) 0 ∅ 0 : sProp 𝕄)) (fun k => reached ER (kcell (c, k)) 0)),
    bigSep_sep', ← bigSep_univ_prod (fun ck : Dev nD × Cl => (reached ER (kcell ck) 0 : sProp 𝕄))]
  iintro ⟨HI, ⟨Hat, #HR⟩, Htok, Hf⟩
  ihave HK := (BI.bigSep_exists_pi Finset.univ (fun (ck : Dev nD × Cl) (κ : ℕ) => (cellInv ER (sched I) κ (kcell ck) : sProp 𝕄))) $$ HI
  icases HK with ⟨%K, #HI⟩
  ihave Htk := (toks_around (F := F)) $$ Htok
  iapply (with_persistent (R := records I K) (Φ := mine) fun c _ => (show iprop(records I K ∗ mine c) ⊢ G' I c from by
    unfold G'
    iintro ⟨HR, Hm⟩
    isplitl [HR]; · iexists K; iexact HR
    iexact Hm))
  isplitr
  · unfold records; isplitl; · iexact HI
    iexact HR
  · unfold mine
    rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch's credit -/

/-- One debt every device has to its partner is one credit every device holds. -/
theorem credit_step (i : ℕ) (s : Fin 2) (sm : SemLoc sig) (n : ℕ) (h : ∀ d, (pays d).drop i = (((peer d s : Thread nD τ), sm), n) :: (pays d).drop (i + 1)) (c : Dev nD) :
    (Pipeline.launchCred (fun d => debt d i) c : sProp 𝕄)
      ⊢ iprop(Pipeline.launchCred (fun d => debt d (i + 1)) c ∗ cred (tallyAt ((c : Thread nD τ), sm) () n)) :=
  (Entails.of_eq (by rw [show (fun d => debt d i) = fun d => debt d (i + 1) + tallyAt ((peer d s : Thread nD τ), sm) () n from funext fun d => congrArg tallies (h d)])).trans <| (Entails.of_eq (Pipeline.launchCred_add (fun d => debt d (i + 1)) (fun d => tallyAt ((peer d s : Thread nD τ), sm) () n) c)).trans
    (sep_mono .rfl (Pipeline.launchCred_tallyAt sm (fun d => peer d s) (fun d => peer d s) (fun d => peer_peer d s) (fun d => peer_peer d s) () n c))

theorem credits (c : Dev nD) : (Pipeline.launchCred (fun d => debt d 0) c : sProp 𝕄)
    ⊢ iprop(cred (tallyAt (barCell c) () 2) ∗ chunks4 (fun k => cred (tallyAt (recvCell c 0 k) () N)) ∗ chunks4 fun k => cred (tallyAt (recvCell c 1 k) () N)) := by
  iintro H
  ihave H := (credit_step 0 0 (.reg barS) 1 (fun _ => rfl) c) $$ H; icases H with ⟨H, Hb1⟩
  ihave H := (credit_step 1 1 (.reg barS) 1 (fun _ => rfl) c) $$ H; icases H with ⟨H, Hb2⟩
  ihave H := (credit_step 2 0 (.dma (recvS 0 0)) N (fun _ => rfl) c) $$ H; icases H with ⟨H, H00⟩
  ihave H := (credit_step 3 0 (.dma (recvS 0 1)) N (fun _ => rfl) c) $$ H; icases H with ⟨H, H01⟩
  ihave H := (credit_step 4 1 (.dma (recvS 1 0)) N (fun _ => rfl) c) $$ H; icases H with ⟨H, H10⟩
  ihave H := (credit_step 5 0 (.dma (recvS 0 2)) N (fun _ => rfl) c) $$ H; icases H with ⟨H, H02⟩
  ihave H := (credit_step 6 1 (.dma (recvS 1 1)) N (fun _ => rfl) c) $$ H; icases H with ⟨H, H11⟩
  ihave H := (credit_step 7 0 (.dma (recvS 0 3)) N (fun _ => rfl) c) $$ H; icases H with ⟨H, H03⟩
  ihave H := (credit_step 8 1 (.dma (recvS 1 2)) N (fun _ => rfl) c) $$ H; icases H with ⟨H, H12⟩
  ihave H := (credit_step 9 1 (.dma (recvS 1 3)) N (fun _ => rfl) c) $$ H; icases H with ⟨H, H13⟩
  unfold chunks4
  isplitl [Hb1 Hb2]
  · rw [show (tallyAt (barCell c) () 2 : CellTallies nD τ sig Unit) = tallyAt (barCell c) () 1 + tallyAt (barCell c) () 1 from (tallyAt_add _ _ 1 1).symm]
    iapply (cred_add _ _).2
    isplitl [Hb1] <;> iassumption
  isplitl [H00 H01 H02 H03]
  · isplitl [H00]; · iexact H00
    isplitl [H01]; · iexact H01
    isplitl [H02] <;> iassumption
  isplitl [H10]; · iexact H10
  isplitl [H11]; · iexact H11
  isplitl [H12] <;> iassumption

end Cert.KernelIdealProof

end
-- ==== Proof.KernelIdeal.Launch.lean ====
/-
# The run at launch

The buffers and counters a device is launched with are what its run starts from, and what the run leaves is the same buffers
and counters with the result written. From any memory with zero counters every execution of the program ends.
-/
module

public import proofs.«01_k».proof.Proof.KernelIdeal.Ghost
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The operands a memory holds. -/
def inputs : Inputs F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg2))
  key c := m ((c : Thread nD τ).loc main_arg3)
  val c := m ((c : Thread nD τ).loc main_arg4)

section Open
variable (I : Inputs F) (c : Dev nD)

/-! ## The eight heads -/

/-- The part of the key and value arrays that is other devices'. -/
def others : sProp 𝕄 := iprop((keyM.view.loc (c : Thread nD τ) ↦[Finset.univ \ ownHeads c keyM]{fullShare} I.key c) ∗ (valM.view.loc (c : Thread nD τ) ↦[Finset.univ \ ownHeads c valM]{fullShare} I.val c))

/-- The heads' places kept by kind. -/
theorem places_eq : heads8 (place I c) = iprop(((heads8 fun h => semVal ((c : Thread nD τ), .dma (keyS h)) 0) ∗ (heads8 fun h => semVal ((c : Thread nD τ), .dma (valS h)) 0)
    ∗ (heads8 fun h => ((keyAt c h).view.loc (c : Thread nD τ) ↦[(keyAt c h).view.set]{fullShare} I.key c)) ∗ (heads8 fun h => ((valAt c h).view.loc (c : Thread nD τ) ↦[(valAt c h).view.set]{fullShare} I.val c))
    ∗ (heads8 fun h => iprop(∃ X, owns (c : Thread nD τ) (kbufM.slice (headR h) (fun _ => rfl)) fullShare X)) ∗ (heads8 fun h => iprop(∃ X, owns (c : Thread nD τ) (vbufM.slice (headR h) (fun _ => rfl)) fullShare X)))
    ∗ (heads8 fun h => iprop(∃ X, owns (c : Thread nD τ) (kbAt h) fullShare X)) ∗ heads8 fun h => iprop(∃ X, owns (c : Thread nD τ) (vbAt h) fullShare X)) := by
  simp only [head_slot, ← heads8_eq]
  rw [← bigSep_sep', ← bigSep_sep', ← bigSep_sep', ← bigSep_sep', ← bigSep_sep', ← bigSep_sep', ← bigSep_sep']
  rfl

theorem places_open : (iprop(fetchSems (F := F) c ∗ (keyM.view.loc (c : Thread nD τ) ↦{fullShare} I.key c) ∗ (valM.view.loc (c : Thread nD τ) ↦{fullShare} I.val c)
      ∗ (∃ f, kbufM.view.loc (c : Thread nD τ) ↦{fullShare} f) ∗ (∃ f, vbufM.view.loc (c : Thread nD τ) ↦{fullShare} f)
      ∗ (∃ f, kbM.view.loc (c : Thread nD τ) ↦{fullShare} f) ∗ (∃ f, vbM.view.loc (c : Thread nD τ) ↦{fullShare} f)) : sProp 𝕄)
    ⊢ iprop(heads8 (place I c) ∗ others I c) := by
  rw [places_eq]
  unfold fetchSems others
  rw [heads8_eq, heads8_eq]
  iintro ⟨⟨Ha, Hb⟩, HK, HV, ⟨%f0, H0⟩, ⟨%f1, H1⟩, ⟨%f2, H2⟩, ⟨%f3, H3⟩⟩
  ihave HK := (Entails.of_eq (src_eq c keyM (I.key c))) $$ HK
  ihave HV := (Entails.of_eq (src_eq c valM (I.val c))) $$ HV
  ihave H0 := (heads_open c kbufM (View.set_whole _) f0) $$ H0
  ihave H1 := (heads_open c vbufM (View.set_whole _) f1) $$ H1
  ihave H2 := (heads_open c kbM (View.set_whole _) f2) $$ H2
  ihave H3 := (heads_open c vbM (View.set_whole _) f3) $$ H3
  icases HK with ⟨HK, HKr⟩
  icases HV with ⟨HV, HVr⟩
  isplitl [Ha Hb HK HV H0 H1 H2 H3]
  · isplitl [Ha Hb HK HV H0 H1]
    · isplitl [Ha]; · iexact Ha
      isplitl [Hb]; · iexact Hb
      isplitl [HK]; · iexact HK
      isplitl [HV]; · iexact HV
      isplitl [H0]; · iexact H0
      iexact H1
    isplitl [H2]; · iexact H2
    iexact H3
  isplitl [HKr]; · iexact HKr
  iexact HVr

theorem places_close (f0 : Buf (Elt F) (kbufM.view.loc (c : Thread nD τ))) (f1 : Buf (Elt F) (vbufM.view.loc (c : Thread nD τ)))
    (f2 : Buf (Elt F) (kbM.view.loc (c : Thread nD τ))) (f3 : Buf (Elt F) (vbM.view.loc (c : Thread nD τ))) : iprop(heads8 (place I c) ∗ others I c)
    ⊢ (iprop(fetchSems (F := F) c ∗ (keyM.view.loc (c : Thread nD τ) ↦{fullShare} I.key c) ∗ (valM.view.loc (c : Thread nD τ) ↦{fullShare} I.val c)
      ∗ (∃ f, kbufM.view.loc (c : Thread nD τ) ↦{fullShare} f) ∗ (∃ f, vbufM.view.loc (c : Thread nD τ) ↦{fullShare} f)
      ∗ (∃ f, kbM.view.loc (c : Thread nD τ) ↦{fullShare} f) ∗ (∃ f, vbM.view.loc (c : Thread nD τ) ↦{fullShare} f)) : sProp 𝕄) := by
  rw [places_eq]
  unfold fetchSems others
  rw [heads8_eq, heads8_eq]
  iintro ⟨⟨⟨Ha, Hb, HK, HV, H0, H1⟩, H2, H3⟩, HKr, HVr⟩
  isplitl [Ha Hb]
  · isplitl [Ha] <;> iassumption
  isplitl [HK HKr]
  · iapply (Entails.of_eq (src_eq c keyM (I.key c)).symm)
    isplitl [HK]; · iexact HK
    iexact HKr
  isplitl [HV HVr]
  · iapply (Entails.of_eq (src_eq c valM (I.val c)).symm)
    isplitl [HV]; · iexact HV
    iexact HVr
  isplitl [H0]; · iapply (heads_close c kbufM (View.set_whole _) f0); iexact H0
  isplitl [H1]; · iapply (heads_close c vbufM (View.set_whole _) f1); iexact H1
  isplitl [H2]; · iapply (heads_close c kbM (View.set_whole _) f2); iexact H2
  iapply (heads_close c vbM (View.set_whole _) f3); iexact H3

/-! ## The lanes -/

theorem chunks4_sep (Φ Ψ : Fin 4 → sProp 𝕄) : chunks4 (fun k => iprop(Φ k ∗ Ψ k)) = iprop(chunks4 Φ ∗ chunks4 Ψ) := by
  rw [← chunks4_eq, ← chunks4_eq, ← chunks4_eq, bigSep_sep']

theorem lane_eq (s : Fin 2) : chunks4 (lane (F := F) c s) = iprop((chunks4 fun k => iprop(∃ Y, owns (c : Thread nD τ) (sendAt s k) fullShare Y)) ∗ (chunks4 fun k => dutyTok ER (sendCell c s k) 0 false)
    ∗ (chunks4 fun k => dutyTok ER (recvCell (peer c s) s k) 0 false) ∗ (chunks4 fun k => cred (tallyAt (recvCell c s k) () N))
    ∗ (chunks4 fun k => atPos ER (sendCell c s k) 0 ∅ 0) ∗ chunks4 fun k => atPos ER (recvCell c s k) 0 ∅ 0) := by
  rw [← chunks4_sep, ← chunks4_sep, ← chunks4_sep, ← chunks4_sep, ← chunks4_sep]; rfl

theorem spent_eq (s : Fin 2) : chunks4 (spent (F := F) c s) = iprop((chunks4 fun k => iprop(∃ Y, owns (c : Thread nD τ) (sendAt s k) fullShare Y)) ∗ (barPay c s : sProp 𝕄)
    ∗ (chunks4 fun k => semVal (sendCell c s k) 0) ∗ chunks4 fun k => semVal (recvCell c s k) 0) := by
  rw [barPay_eq, ← chunks4_sep, ← chunks4_sep, ← chunks4_sep]; rfl

/-- A device's counters at zero for the copies it makes and gets. -/
theorem copySems_eq : (bigSep Finset.univ fun x : Bool × Sk => (semVal (kcell (c, some x)) 0 : sProp 𝕄))
    = iprop(((chunks4 fun k => semVal (sendCell c 0 k) 0) ∗ chunks4 fun k => semVal (sendCell c 1 k) 0) ∗ (chunks4 fun k => semVal (recvCell c 0 k) 0) ∗ chunks4 fun k => semVal (recvCell c 1 k) 0) := by
  rw [bools_eq, ← lanes_eq (fun s k => semVal (sendCell c s k) 0), ← lanes_eq (fun s k => semVal (recvCell c s k) 0)]

/-- Its positions. -/
theorem positions_eq : (bigSep Finset.univ fun k : Cl => (atPos ER (kcell (c, k)) 0 ∅ 0 : sProp 𝕄))
    = iprop(atPos ER (barCell c) 0 ∅ 0 ∗ ((chunks4 fun k => atPos ER (sendCell c 0 k) 0 ∅ 0) ∗ chunks4 fun k => atPos ER (sendCell c 1 k) 0 ∅ 0)
      ∗ (chunks4 fun k => atPos ER (recvCell c 0 k) 0 ∅ 0) ∗ chunks4 fun k => atPos ER (recvCell c 1 k) 0 ∅ 0) := by
  rw [cells_eq, bools_eq, ← lanes_eq (fun s k => atPos ER (sendCell c s k) 0 ∅ 0), ← lanes_eq (fun s k => atPos ER (recvCell c s k) 0 ∅ 0)]

/-- Its duties. -/
theorem payToks_eq : (payToks (F := F) c) = iprop((dutyTok ER (barCell (peer c 0)) 0 (dutyOf 0) ∗ dutyTok ER (barCell (peer c 1)) 0 (dutyOf 1))
    ∗ ((chunks4 fun k => dutyTok ER (sendCell c 0 k) 0 false) ∗ chunks4 fun k => dutyTok ER (sendCell c 1 k) 0 false)
    ∗ (chunks4 fun k => dutyTok ER (recvCell (peer c 0) 0 k) 0 false) ∗ chunks4 fun k => dutyTok ER (recvCell (peer c 1) 1 k) 0 false) := by
  unfold payToks
  rw [← lanes_eq (fun s k => dutyTok ER (sendCell c s k) 0 false), ← lanes_eq (fun s k => dutyTok ER (recvCell (peer c s) s k) 0 false), bigSep_univ_eq_bigSepL [(0 : Fin 2), 1] (by decide) (by decide)]
  rfl

end Open

/-! ## What the launch carries -/

/-- What a device is given at launch beside its staged operands and its scratch. -/
def start (c : Dev nD) : sProp 𝕄 := iprop(G' (inputs m) c
  ∗ (cred (tallyAt (barCell c) () 2) ∗ chunks4 (fun k => cred (tallyAt (recvCell c 0 k) () N)) ∗ chunks4 fun k => cred (tallyAt (recvCell c 1 k) () N)) ∗ levAts L lv
  ∗ (keyM.view.loc (c : Thread nD τ) ↦{fullShare} m ((c : Thread nD τ).loc main_arg3)) ∗ (valM.view.loc (c : Thread nD τ) ↦{fullShare} m ((c : Thread nD τ).loc main_arg4)))

/-- The scratch buffers, whatever they hold. -/
def scratch (c : Dev nD) : sProp 𝕄 := Pipeline.scopedRest cfg0.spec c

def Φ₀ (c : Dev nD) : sProp 𝕄 := iprop(start m c ∗ scratch (F := F) c)
def Φ₁ (c : Dev nD) : sProp 𝕄 := iprop((fetchSems (F := F) c ∗ (bigSep Finset.univ fun x : Bool × Sk => semVal (kcell (c, some x)) 0) ∗ semVal (barCell c) 0)
  ∗ ((keyM.view.loc (c : Thread nD τ) ↦{fullShare} m ((c : Thread nD τ).loc main_arg3)) ∗ (valM.view.loc (c : Thread nD τ) ↦{fullShare} m ((c : Thread nD τ).loc main_arg4))) ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => (inputs m).x c
    | ⟨1, _⟩ => (inputs m).wq c
    | ⟨2, _⟩ => (inputs m).wo c
    | ⟨3, _⟩ => result (inputs m) c
  Φ t := match t with
    | ⟨0, _⟩ => Φ₀ m c
    | ⟨_ + 1, _⟩ => Φ₁ m c
  q _ := fullShare
  owed t := match t with
    | ⟨0, _⟩ => debt c 0
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## A device's run -/

/-- A staging buffer at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (c : Dev nD) : sProp 𝕄 := iprop(Φ₁ m c ∗ (dats m 0 c).owesAt () t0_0.succ ∗ stg c cc0_stg0_0 ((inputs m).x c) ∗ stg c cc0_stg1_0 ((inputs m).wq c)
  ∗ stg c cc0_stg2_0 ((inputs m).wo c) ∗ stg c cc0_stg3_0 (result (inputs m) c))

def bodyPre (c : Dev nD) : sProp 𝕄 := iprop(Φ₀ m c ∗ (dats m 0 c).owesAt () t0_0.castSucc
  ∗ (∃ d, stg c cc0_stg0_0 ((dats m 0 c).before (0 : Fin 4) t0_0 d)) ∗ (∃ d, stg c cc0_stg1_0 ((dats m 0 c).before (1 : Fin 4) t0_0 d))
  ∗ (∃ d, stg c cc0_stg2_0 ((dats m 0 c).before (2 : Fin 4) t0_0 d)) ∗ (∃ d, stg c cc0_stg3_0 ((dats m 0 c).before (3 : Fin 4) t0_0 d)))

/-- What a device starts with is what its run starts from, once its buffers are cut in heads and chunks. -/
theorem enter (c : Dev nD) (W : Waits sig Unit) (f0 f1 f2 f3 f4 f5 f6) (out : Buf (Elt F) (outM.view.loc (c : Thread nD τ))) :
    iprop(start m c ∗ owes (c : Thread nD τ) (debt c 0) W ∗ operands (inputs m) c ∗ (outM.view.loc (c : Thread nD τ) ↦{fullShare} out)
      ∗ (kbufM.view.loc (c : Thread nD τ) ↦{fullShare} f0) ∗ (vbufM.view.loc (c : Thread nD τ) ↦{fullShare} f1) ∗ (kbM.view.loc (c : Thread nD τ) ↦{fullShare} f2)
      ∗ (vbM.view.loc (c : Thread nD τ) ↦{fullShare} f3) ∗ ((sendM 0).view.loc (c : Thread nD τ) ↦{fullShare} f4) ∗ ((sendM 1).view.loc (c : Thread nD τ) ↦{fullShare} f5)
      ∗ (landM.view.loc (c : Thread nD τ) ↦{fullShare} f6))
      ⊢ (iprop(∃ K, runPre (inputs m) K c W ∗ others (inputs m) c) : sProp 𝕄) := by
  unfold start G' mine
  rw [positions_eq, payToks_eq]
  iintro ⟨⟨⟨⟨%K, HR⟩, ⟨Hpb, ⟨Hps0, Hps1⟩, Hpr0, Hpr1⟩, ⟨⟨Htb0, Htb1⟩, ⟨Hts0, Hts1⟩, Htr0, Htr1⟩, Hf⟩, ⟨Hcb, Hc0, Hc1⟩, Hlev, HK, HV⟩, HO, Hops, Hout, H0, H1, H2, H3, H4, H5, H6⟩
  ihave Hpl := (places_open (inputs m) c) $$ [Hf HK HV H0 H1 H2 H3]
  · isplitl [Hf]; · iexact Hf
    isplitl [HK]; · iexact HK
    isplitl [HV]; · iexact HV
    isplitl [H0]; · iexists f0; iexact H0
    isplitl [H1]; · iexists f1; iexact H1
    isplitl [H2]; · iexists f2; iexact H2
    iexists f3; iexact H3
  icases Hpl with ⟨Hpl, Hrest⟩
  ihave Hout := (rows_open c outM (View.set_whole _) out) $$ Hout
  ihave H4 := (rows_open c (sendM 0) (View.set_whole _) f4) $$ H4
  ihave H5 := (rows_open c (sendM 1) (View.set_whole _) f5) $$ H5
  ihave H6 := (land_open c f6) $$ H6
  icases H6 with ⟨H6a, H6b⟩
  iexists K
  isplitr [Hrest]
  · unfold runPre greeting
    rw [lane_eq, lane_eq]
    isplitl [HR]; · iexact HR
    isplitl [Hlev]; · iexact Hlev
    isplitl [HO]; · iexact HO
    isplitl [Htb0 Htb1 Hcb Hpb]
    · isplitl [Htb0]; · iexact Htb0
      isplitl [Htb1]; · iexact Htb1
      isplitl [Hcb] <;> iassumption
    isplitl [Hops]; · iexact Hops
    isplitl [H6a]; · iexact H6a
    isplitl [H6b]; · iexact H6b
    isplitl [Hpl]; · iexact Hpl
    isplitl [Hout]; · iexact Hout
    isplitl [H4 Hts0 Htr0 Hc0 Hps0 Hpr0]
    · isplitl [H4]; · iexact H4
      isplitl [Hts0]; · iexact Hts0
      isplitl [Htr0]; · iexact Htr0
      isplitl [Hc0]; · iexact Hc0
      isplitl [Hps0] <;> iassumption
    isplitl [H5]; · iexact H5
    isplitl [Hts1]; · iexact Hts1
    isplitl [Htr1]; · iexact Htr1
    isplitl [Hc1]; · iexact Hc1
    isplitl [Hps1] <;> iassumption
  iexact Hrest

/-- What its run leaves is whole buffers and counters at zero again. -/
theorem leave (c : Dev nD) (f0 : Buf (Elt F) (kbufM.view.loc (c : Thread nD τ))) (f1 : Buf (Elt F) (vbufM.view.loc (c : Thread nD τ)))
    (f2 : Buf (Elt F) (kbM.view.loc (c : Thread nD τ))) (f3 : Buf (Elt F) (vbM.view.loc (c : Thread nD τ)))
    (f4 : Buf (Elt F) ((sendM 0).view.loc (c : Thread nD τ))) (f5 : Buf (Elt F) ((sendM 1).view.loc (c : Thread nD τ))) (f6 : Buf (Elt F) (landM.view.loc (c : Thread nD τ))) :
    iprop(runPost (inputs m) c ∗ others (inputs m) c)
      ⊢ (iprop((∃ W, owes (c : Thread nD τ) 0 W) ∗ operands (inputs m) c ∗ (outM.view.loc (c : Thread nD τ) ↦{fullShare} result (inputs m) c) ∗ Φ₁ m c) : sProp 𝕄) := by
  unfold runPost Φ₁ scratch
  rw [spent_eq, spent_eq, scopedRest0_eq, copySems_eq]
  iintro ⟨⟨HO, Hops, Hb, Hpl, Hout, ⟨H4, H6a, Hs0, Hr0⟩, H5, H6b, Hs1, Hr1⟩, Hrest⟩
  ihave Hpl := (places_close (inputs m) c f0 f1 f2 f3) $$ [Hpl Hrest]
  · isplitl [Hpl] <;> iassumption
  icases Hpl with ⟨Hf, HK, HV, H0, H1, H2, H3⟩
  isplitl [HO]; · iexact HO
  isplitl [Hops]; · iexact Hops
  isplitl [Hout]; · iapply (out_close c fun k => total (inputs m) c k); iexact Hout
  isplitl [Hf Hb Hs0 Hs1 Hr0 Hr1]
  · isplitl [Hf]; · iexact Hf
    isplitr [Hb]
    · isplitl [Hs0 Hs1]
      · isplitl [Hs0] <;> iassumption
      isplitl [Hr0] <;> iassumption
    iexact Hb
  isplitl [HK HV]
  · isplitl [HK]; · iexact HK
    iexact HV
  isplitl [H0]; · iexact H0
  isplitl [H1]; · iexact H1
  isplitl [H2]; · iexact H2
  isplitl [H3]; · iexact H3
  isplitl [H4]; · iapply (rows_close c (sendM 0) (View.set_whole _) f4); iexact H4
  isplitl [H5]; · iapply (rows_close c (sendM 1) (View.set_whole _) f5); iexact H5
  iapply (land_close c f6)
  isplitl [H6a] <;> iassumption

set_option maxRecDepth 4000 in
theorem body_run (c : Dev nD) : bodyPre m c ⊢ wp frame (wpE (defs₀ (F := F)) 𝒱₀ (c : Thread nD τ) none) Set.univ (bodyAt0 (F := F) t0_0) (fun _ => bodyPost m c) := by
  unfold bodyPre Φ₀ scratch
  rw [scopedRest0_eq]
  iintro ⟨⟨Hst, ⟨%f0, H0⟩, ⟨%f1, H1⟩, ⟨%f2, H2⟩, ⟨%f3, H3⟩, ⟨%f4, H4⟩, ⟨%f5, H5⟩, %f6, H6⟩, Ho, ⟨%dx, %gx, %hx, Hx⟩, ⟨%dq, %gq, %hq, Hq⟩, ⟨%dw, %gw, %hw, Hw⟩, %d, %out, -, Hout⟩
  have ex : gx = (inputs m).x c := by rw [hx]; unfold Dat.before; rw [if_pos (fetch0_0 t0_0)]; rfl
  have eq : gq = (inputs m).wq c := by rw [hq]; unfold Dat.before; rw [if_pos (fetch0_1 t0_0)]; rfl
  have ew : gw = (inputs m).wo c := by rw [hw]; unfold Dat.before; rw [if_pos (fetch0_2 t0_0)]; rfl
  subst ex eq ew
  unfold Dat.owesAt Pipeline.owesWithin
  icases Ho with ⟨%W, %hW, HO⟩
  ihave H := (enter m c W f0 f1 f2 f3 f4 f5 f6 out) $$ [Hst HO Hx Hq Hw Hout H0 H1 H2 H3 H4 H5 H6]
  · isplitl [Hst]; · iexact Hst
    isplitl [HO]; · iexact HO
    isplitl [Hx Hq Hw]
    · unfold operands
      isplitl [Hx]; · iexact Hx
      isplitl [Hq] <;> iassumption
    isplitl [Hout]; · iexact Hout
    isplitl [H0]; · iexact H0
    isplitl [H1]; · iexact H1
    isplitl [H2]; · iexact H2
    isplitl [H3]; · iexact H3
    isplitl [H4]; · iexact H4
    isplitl [H5] <;> iassumption
  icases H with ⟨%K, Hpre, Hrest⟩
  iapply (run (inputs m) K c W fun _ => bodyPost m c)
  isplitl [Hpre]; · iexact Hpre
  iintro Hpost
  ihave H := (leave m c f0 f1 f2 f3 f4 f5 f6) $$ [Hpost Hrest]
  · isplitl [Hpost] <;> iassumption
  unfold operands
  icases H with ⟨⟨%W', HO⟩, ⟨Hx, Hq, Hw⟩, Hout, HΦ⟩
  unfold bodyPost Dat.owesAt Pipeline.owesWithin
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Hout

set_option maxRecDepth 65536 in
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ (c : Thread nD τ) none) Set.univ (bodyAt0 (F := F) t0_0) (fun _ => bodyPost m c)
  exact body_run m c

/-! ## The launch's conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => debt d 0) c ∗ prngReg c (ρ c) ∗ G' (inputs m) c)
      ⊢ |={Set.univ}=> iprop(start m c ∗ emp) := by
  rw [Pipeline.unscopedRestP_none, unscopedRest0_eq]
  iintro ⟨⟨HK, HV⟩, Hlev, Hcr, -, HG⟩
  ihave Hc := (credits (F := F) c) $$ Hcr
  imodintro
  unfold start
  isplitl
  · isplitl [HG]; · iexact HG
    isplitl [Hc]; · iexact Hc
    isplitl [Hlev]; · iexact Hlev
    isplitl [HK] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ scratch
  iintro ⟨Hs, -, Hr⟩
  isplitl [Hs] <;> iassumption

/-- What a device keeps after the call: its counters of the barrier, the key and value arrays. -/
def kept' (c : Dev nD) : sProp 𝕄 := iprop(unscopedSems0 c ∗ (keyM.view.loc (c : Thread nD τ) ↦{fullShare} m ((c : Thread nD τ).loc main_arg3)) ∗ (valM.view.loc (c : Thread nD τ) ↦{fullShare} m ((c : Thread nD τ).loc main_arg4)))

theorem phi1_exit (c : Dev nD) :
    (dats m 0 c).Φ (Fin.last cfg0.N) ⊢ iprop(kept' m c ∗ Pipeline.ownSems0 osem c ∗ Pipeline.scopedRest cfg0.spec c) := by
  rw [show (dats m 0 c).Φ (Fin.last cfg0.N) = Φ₁ m c from rfl, ownSems0_eq]
  unfold Φ₁ kept' scratch
  rw [unscopedSems0_eq]
  iintro ⟨⟨Hf, Hc, Hb⟩, ⟨HK, HV⟩, Hr⟩
  isplitl [Hb HK HV]
  · isplitl [Hb]; · iexact Hb
    isplitl [HK] <;> iassumption
  isplitl [Hf Hc]
  · isplitl [Hf] <;> iassumption
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 0 (by revert w s; decide)
    · exact mayWait c _ 10 (by revert w s; decide)

/-! ## The program -/

def finalA (c : Dev nD) (w : Fin cfg0.W) : Buf (Elt F) ((cfg0.win w).arr.view.loc (c : Thread nD τ)) := (dats m 0 c).arrAt w cfg0.N

/-- What a final memory holds. -/
def QC : PUnit × MemSt nD τ sig (Elt F) → Prop := fun r => ∀ c : Dev nD,
  (∀ w : Fin cfg0.W, r.2.mem ((cfg0.win w).arr.view.loc (c : Thread nD τ)) = finalA m c w)
  ∧ r.2.mem ((c : Thread nD τ).loc main_arg3) = m ((c : Thread nD τ).loc main_arg3) ∧ r.2.mem ((c : Thread nD τ).loc main_arg4) = m ((c : Thread nD τ).loc main_arg4)

/-- A device's barrier at zero. -/
def calm (c : Dev nD) (s : MemSt nD τ sig (Elt F)) : Prop := ∀ sm : SemLoc sig, sm.isScoped .tc = false → s.sem ((c.tc : Thread nD τ), sm) = 0

/-- What a device keeps, read in the final memory. -/
theorem kept_read (c : Dev nD) (s' : Phys nD τ sig (Elt F)) : iprop(kept' m c ∗ emp ∗ SI s') ⊢ |={Set.univ}=> iprop(⌜calm c s'.mem
    ∧ s'.mem.mem ((c : Thread nD τ).loc main_arg3) = m ((c : Thread nD τ).loc main_arg3) ∧ s'.mem.mem ((c : Thread nD τ).loc main_arg4) = m ((c : Thread nD τ).loc main_arg4)⌝ ∗ SI s') := by
  unfold kept'
  iintro ⟨⟨Hu, HK, HV⟩, -, HSI⟩
  ihave %hK := (SI_pointsTo_agree) $$ [HSI HK]
  · isplitl [HSI]; · iexact HSI
    iexact HK
  ihave %hV := (SI_pointsTo_agree) $$ [HSI HV]
  · isplitl [HSI]; · iexact HSI
    iexact HV
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hK i (Finset.mem_univ i), funext fun i => hV i (Finset.mem_univ i)⟩
  iexact HSI

set_option maxRecDepth 8000 in
/-- From any memory with zero counters every weakly fair execution of the four devices' program ends, and every final state
holds on each device the result computed, all operands unchanged and all counters at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun c => debt c 0) (howed₀ := fun _ => rfl) (howedN := fun _ => rfl)
    (L := L) (lv := lv) (hL := L_of_ne) (hwaits := waits m)
    (G := G (inputs m)) (G' := G' (inputs m)) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (show (BI.own ((Emb.inl.trans embR).toFun (initOf ringCells ringToks)) : sProp 𝕄) ⊢ _ from fund_ring (inputs m)) $$ HX with HG
      imodintro
      isplitl [HP] <;> iassumption)
    (hglob := glob (inputs m))
    (hA := fun _ _ => rfl) (hpf := fun _ k => k.elim0)
    (X := start m) (Y := kept' m) (Z := fun _ => iprop(emp))
    (hX := start_intro m ρ) (hin := phi0_intro m) (hout := phi1_exit m)
    (QY := fun c s => calm c s ∧ s.mem ((c : Thread nD τ).loc main_arg3) = m ((c : Thread nD τ).loc main_arg3) ∧ s.mem ((c : Thread nD τ).loc main_arg4) = m ((c : Thread nD τ).loc main_arg4))
    (hY := fun c s' => kept_read m c s')
    (hQ := fun _ h hs => ⟨fun c => ⟨(h c).1, (h c).2.2.2⟩, sem_eq_zero hs fun c => (h c).2.2.1⟩)

end Cert.KernelIdealProof

end
-- ==== Proof.KernelIdeal.Program.lean ====
/-
# The program's run, read

The windows' blocks are whole arrays: the staged operands are the arguments, and the result array ends at the computed contents.
-/
module

public import proofs.«01_k».proof.Proof.KernelIdeal.Launch

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The windows' blocks -/

theorem read_x (f : main_arg0.ty.Contents (Elt F)) : (win0_0.blk (0 : Fin 1)).view.read (Elt F) f = f :=
  Memref.read_access_unit_zero (Elt F) main_arg0 (funext fun a => by fin_cases a <;> decide) (fun a => by fin_cases a <;> decide) f
theorem read_wq (f : main_arg1.ty.Contents (Elt F)) : (win0_1.blk (0 : Fin 1)).view.read (Elt F) f = f :=
  Memref.read_access_unit_zero (Elt F) main_arg1 (funext fun a => by fin_cases a <;> decide) (fun a => by fin_cases a <;> decide) f
theorem read_wo (f : main_arg2.ty.Contents (Elt F)) : (win0_2.blk (0 : Fin 1)).view.read (Elt F) f = f :=
  Memref.read_access_unit_zero (Elt F) main_arg2 (funext fun a => by fin_cases a <;> decide) (fun a => by fin_cases a <;> decide) f
theorem read_out (f : main_v1.ty.Contents (Elt F)) : (win0_3.blk (0 : Fin 1)).view.read (Elt F) f = f :=
  Memref.read_access_unit_zero (Elt F) main_v1 (funext fun a => by fin_cases a <;> decide) (fun a => by fin_cases a <;> decide) f

theorem inputs_x (c : Dev nD) : (inputs m).x c = m ((c : Thread nD τ).loc main_arg0) := read_x (F := F) (m ((c : Thread nD τ).loc main_arg0))
theorem inputs_wq (c : Dev nD) : (inputs m).wq c = m ((c : Thread nD τ).loc main_arg1) := read_wq (F := F) (m ((c : Thread nD τ).loc main_arg1))
theorem inputs_wo (c : Dev nD) : (inputs m).wo c = m ((c : Thread nD τ).loc main_arg2) := read_wo (F := F) (m ((c : Thread nD τ).loc main_arg2))

theorem finalA_x (c : Dev nD) : finalA m c (0 : Fin 4) = m ((c : Thread nD τ).loc main_arg0) := (dats (F := F) m 0 c).arrAt_in (0 : Fin 4) rfl _
theorem finalA_wq (c : Dev nD) : finalA m c (1 : Fin 4) = m ((c : Thread nD τ).loc main_arg1) := (dats (F := F) m 0 c).arrAt_in (1 : Fin 4) rfl _
theorem finalA_wo (c : Dev nD) : finalA m c (2 : Fin 4) = m ((c : Thread nD τ).loc main_arg2) := (dats (F := F) m 0 c).arrAt_in (2 : Fin 4) rfl _

theorem finalA_out (c : Dev nD) : finalA m c (3 : Fin 4) = result (inputs m) c := by
  have h : (win0_3.blk (0 : Fin 1)).view.read (Elt F) (finalA m c (3 : Fin 4)) = result (inputs m) c := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (read_out _).symm.trans h

/-! ## What the run leaves -/

/-- The five arguments of a device are what they were. -/
def argsKept (s : MemSt nD τ sig (Elt F)) (c : Dev nD) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

/-- Every execution ends, with each device's result array at the computed contents, its arguments unchanged and all counters
at zero. -/
theorem run_value : θ_run defs (onTc (τ := τ) (main (F := F))) ⟨m, fun _ => 0, ρ⟩
    (fun r => (∀ c : Dev nD, r.2.mem ((c : Thread nD τ).loc main_v1) = result (inputs m) c ∧ argsKept m r.2 c) ∧ r.2.sem = fun _ => 0) :=
  (θ_run defs _ _).mono (fun _ h => ⟨fun c => ⟨((h.1 c).1 (3 : Fin 4)).trans (finalA_out m c), ((h.1 c).1 (0 : Fin 4)).trans (finalA_x m c),
    ((h.1 c).1 (1 : Fin 4)).trans (finalA_wq m c), ((h.1 c).1 (2 : Fin 4)).trans (finalA_wo m c), (h.1 c).2.1, (h.1 c).2.2⟩, h.2⟩) (run_main m ρ)

end Cert.KernelIdealProof

end
-- ==== Proof.Softmax.lean ====
/-
# Softmax attention over the extended reals

Here is the mathematics that the two programs share, without either program. The scores of a query row are real numbers;
the values it averages may be infinite. A softmax average is then the same whether no number is subtracted from the
scores, or, as an online softmax does, the scores are taken in two halves, each less the largest score seen so far,
and the first half's sums are rescaled afterwards.
-/
module

public import Idealize.ShloMosaic.PureOps
public import Idealize.ShloMosaic.PureOps.Ideal
public import Idealize.ShloMosaic.PureOps.Ideal.Laws

@[expose] public section

noncomputable section

namespace Cert.Attention

open Idealize.ShloMosaic

/-! ## Real extended reals -/

/-- `x` is a real number. -/
def IsReal (x : EReal) : Prop := ∃ r : ℝ, x = (r : EReal)

theorem isReal_of_ne {x : EReal} (h1 : x ≠ ⊥) (h2 : x ≠ ⊤) : IsReal x := ⟨x.toReal, (EReal.coe_toReal h2 h1).symm⟩

/-- A sum of reals, taken over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor may be moved into a sum, whatever the terms are. -/
theorem mul_sum_coe {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- The largest of finitely many reals, started from `⊥`, is real when there is at least one. -/
theorem isReal_max {ι : Type} [Fintype ι] [Nonempty ι] (a : ι → EReal) (ha : ∀ j, IsReal (a j)) : IsReal (Finset.univ.fold max ⊥ a) := by
  obtain ⟨i⟩ := ‹Nonempty ι›
  refine isReal_of_ne (ne_of_gt ((Finset.lt_fold_max _).2 (.inr ⟨i, Finset.mem_univ _, ?_⟩)))
    (ne_of_lt ((Finset.fold_max_lt _).2 ⟨bot_lt_top, fun j _ => ?_⟩))
  · obtain ⟨r, hr⟩ := ha i; rw [hr]; exact EReal.bot_lt_coe r
  · obtain ⟨r, hr⟩ := ha j; rw [hr]; exact EReal.coe_lt_top r

theorem isReal_max₂ {x y : EReal} (hx : IsReal x) (hy : IsReal y) : IsReal (max x y) := by
  rcases max_choice x y with h | h <;> rw [h] <;> assumption

/-! ## Scores -/

/-- Scaling the queries before the product with the keys is scaling the scores after it, and the score is real. -/
theorem score_real {m n : Nat} (x : Fin m → EReal) (w : Fin m → Fin n → EReal) (k : Fin n → EReal) (s : EReal)
    (hx : ∀ u, IsReal (x u)) (hw : ∀ u t, IsReal (w u t)) (hk : ∀ t, IsReal (k t)) (hs : IsReal s) :
    (∑ t, ((∑ u, x u * w u t) * s) * k t) = (∑ t, (∑ u, x u * w u t) * k t) * s
      ∧ IsReal ((∑ t, (∑ u, x u * w u t) * k t) * s) := by
  choose x' hx using hx
  choose w' hw using hw
  choose k' hk using hk
  obtain ⟨s', rfl⟩ := hs
  simp only [hx, hw, hk, ← EReal.coe_mul, ← coe_sum]
  refine ⟨congrArg _ ?_, _, rfl⟩
  rw [Finset.sum_mul]
  exact Finset.sum_congr rfl fun t _ => by ring

/-! ## The average -/

/-- The average of the values `v` weighted by the exponentials of the scores `a`. -/
def average {n : Nat} (a v : Fin n → EReal) : EReal := Ideal.div (∑ j, Ideal.exp (a j) * v j) (∑ j, Ideal.exp (a j))

/-- A common positive real factor of numerator and denominator drops out. -/
theorem div_cancel (c l : ℝ) (hc : 0 < c) (hl : 0 < l) (x : EReal) :
    Ideal.div ((c : EReal) * x) ((c : EReal) * (l : EReal)) = Ideal.div x (l : EReal) := by
  have h1 : (c : EReal) * (l : EReal) ≠ 0 := by rw [← EReal.coe_mul]; exact_mod_cast (mul_pos hc hl).ne'
  have h2 : (l : EReal) ≠ 0 := by exact_mod_cast hl.ne'
  rw [Ideal.div, if_neg h1, Ideal.div, if_neg h2, ← EReal.coe_mul, ← EReal.coe_inv, ← EReal.coe_inv, mul_comm (c : EReal) x, mul_assoc,
    ← EReal.coe_mul]
  congr 2
  field_simp

/-- An exponential with a number subtracted is the exponential times a fixed positive factor. -/
theorem exp_sub (a r : ℝ) : Ideal.exp ((a : EReal) - (r : EReal)) = ((Real.exp (-r) : ℝ) : EReal) * Ideal.exp (a : EReal) := by
  rw [← EReal.coe_sub, Ideal.exp_coe, Ideal.exp_coe, ← EReal.coe_mul, ← Real.exp_add]
  congr 2
  ring

/-- Two steps of an online softmax, on the scores `a`, `a'` and values `v`, `v'` of its two halves, give the average over
    both halves. The running maxima are `M` and `M'`, started from `⊥`; the sums are started from zero. -/
theorem online {n : Nat} (a a' v v' : Fin n → EReal) (M M' : EReal) (ha : ∀ j, IsReal (a j)) (ha' : ∀ j, IsReal (a' j))
    (hM : IsReal M) (hM' : IsReal M') (hn : 0 < n) :
    Ideal.div
      ((0 * Ideal.exp (⊥ - M) + ∑ j, v j * Ideal.exp (a j - M)) * Ideal.exp (M - M') + ∑ j, v' j * Ideal.exp (a' j - M'))
      ((0 * Ideal.exp (⊥ - M) + ∑ j, Ideal.exp (a j - M)) * Ideal.exp (M - M') + ∑ j, Ideal.exp (a' j - M'))
    = Ideal.div ((∑ j, Ideal.exp (a j) * v j) + ∑ j, Ideal.exp (a' j) * v' j) ((∑ j, Ideal.exp (a j)) + ∑ j, Ideal.exp (a' j)) := by
  choose b ha using ha
  choose b' ha' using ha'
  obtain ⟨r, rfl⟩ := hM
  obtain ⟨r', rfl⟩ := hM'
  have hv : ∀ (q : ℝ) (c : Fin n → ℝ) (w : Fin n → EReal),
      ∑ j, w j * Ideal.exp ((c j : EReal) - (q : EReal)) = ((Real.exp (-q) : ℝ) : EReal) * ∑ j, Ideal.exp (c j : EReal) * w j := by
    intro q c w
    rw [mul_sum_coe _ _ (Real.exp_pos _).le]
    exact Finset.sum_congr rfl fun j _ => by rw [exp_sub, mul_comm, mul_assoc]
  have h1 : ∀ (q : ℝ) (c : Fin n → ℝ),
      ∑ j, Ideal.exp ((c j : EReal) - (q : EReal)) = ((Real.exp (-q) : ℝ) : EReal) * ∑ j, Ideal.exp (c j : EReal) := by
    intro q c
    rw [mul_sum_coe _ _ (Real.exp_pos _).le]
    exact Finset.sum_congr rfl fun j _ => exp_sub _ _
  have hr : ∀ x : EReal, (((Real.exp (-r) : ℝ) : EReal) * x) * Ideal.exp ((r : EReal) - (r' : EReal)) = ((Real.exp (-r') : ℝ) : EReal) * x := by
    intro x
    rw [mul_comm, ← mul_assoc, ← EReal.coe_sub, Ideal.exp_coe, ← EReal.coe_mul, ← Real.exp_add]
    congr 3
    ring
  simp only [ha, ha', hv, h1, zero_mul, zero_add, hr]
  have hd : ∀ x y : EReal, ((Real.exp (-r') : ℝ) : EReal) * x + ((Real.exp (-r') : ℝ) : EReal) * y = ((Real.exp (-r') : ℝ) : EReal) * (x + y) :=
    fun x y => (EReal.left_distrib_of_nonneg_of_ne_top (EReal.coe_nonneg.2 (Real.exp_pos _).le) (EReal.coe_ne_top _) x y).symm
  rw [hd, hd]
  have hl : (∑ j, Ideal.exp (b j : EReal)) + ∑ j, Ideal.exp (b' j : EReal)
      = (((∑ j, Real.exp (b j)) + ∑ j, Real.exp (b' j) : ℝ) : EReal) := by
    simp only [Ideal.exp_coe, EReal.coe_add, coe_sum]
  rw [hl]
  refine div_cancel _ _ (Real.exp_pos _) ?_ _
  have : Nonempty (Fin n) := ⟨⟨0, hn⟩⟩
  exact add_pos (Finset.sum_pos (fun j _ => Real.exp_pos _) Finset.univ_nonempty)
    (Finset.sum_pos (fun j _ => Real.exp_pos _) Finset.univ_nonempty)

end Cert.Attention

end
-- ==== Proof.Spec.lean ====
/-
# The attention layer as one formula

The whole arrays are a 512 × 1024 input, a 1024 × 4096 query matrix, 2048 × 32 × 128 keys and values and a 4096 × 1024
output matrix. There are 32 heads of width 128; head `g` owns columns `128 g … 128 g + 127` of the query matrix and the
rows of the same numbers of the output matrix. Both programs are proved to return `output`.
-/
module

public import proofs.«01_k».proof.Proof.Softmax
public import Idealize.ShloMosaic.Lib.Pointwise.Index

@[expose] public section

noncomputable section

namespace Cert.Attention

open Idealize.ShloMosaic

/-- An array of extended reals with two axes, and one with three. -/
abbrev Arr2 (a b : Nat) : Type := (⟨2, ![a, b]⟩ : Shape).Idx → EReal
abbrev Arr3 (a b c : Nat) : Type := (⟨3, ![a, b, c]⟩ : Shape).Idx → EReal

/-- The factor `128 ^ (-1/2)`, as the programs write it. -/
def scale : EReal := Ideal.ofBits .f32 0x3DB504F3#32

theorem isReal_scale : IsReal scale := by
  simp [scale, Ideal.ofBits, Ideal.ieee, -EReal.coe_mul]
  exact ⟨_, rfl⟩

/-- Column `128 g + t` of the 4096 that the heads share out. -/
def col (g : Fin 32) (t : Fin 128) : Fin 4096 := ⟨128 * g.val + t.val, by omega⟩

/-- The unscaled query of row `r` in column `a`. -/
def query (x : Arr2 512 1024) (wq : Arr2 1024 4096) (r : Fin 512) (a : Fin 4096) : EReal := ∑ u : Fin 1024, x (ix2 r u) * wq (ix2 u a)

/-- The score of row `r` at head `g` against key `j`. -/
def score (x : Arr2 512 1024) (wq : Arr2 1024 4096) (key : Arr3 2048 32 128) (r : Fin 512) (g : Fin 32) (j : Fin 2048) : EReal :=
  (∑ t : Fin 128, query x wq r (col g t) * key (ix3 j g t)) * scale

/-- The attention output of row `r` at head `g`, element `e`. -/
def attend (x : Arr2 512 1024) (wq : Arr2 1024 4096) (key val : Arr3 2048 32 128) (r : Fin 512) (g : Fin 32) (e : Fin 128) : EReal :=
  average (score x wq key r g) fun j => val (ix3 j g e)

/-- The layer's output. -/
def output (x : Arr2 512 1024) (wq : Arr2 1024 4096) (wo : Arr2 4096 1024) (key val : Arr3 2048 32 128) (r : Fin 512) (n : Fin 1024) : EReal :=
  ∑ g : Fin 32, ∑ e : Fin 128, attend x wq key val r g e * wo (ix2 (col g e) n)

/-- Every element of the input, the query matrix and the keys is real. -/
structure Finite (x : Arr2 512 1024) (wq : Arr2 1024 4096) (key : Arr3 2048 32 128) : Prop where
  x : ∀ i, IsReal (x i)
  wq : ∀ i, IsReal (wq i)
  key : ∀ i, IsReal (key i)

/-- The scores of such arrays are real, and the queries may be scaled first. -/
theorem Finite.score {x : Arr2 512 1024} {wq : Arr2 1024 4096} {key : Arr3 2048 32 128} (h : Finite x wq key) (r : Fin 512) (g : Fin 32) (j : Fin 2048) :
    (∑ t : Fin 128, (query x wq r (col g t) * scale) * key (ix3 j g t)) = Attention.score x wq key r g j ∧ IsReal (Attention.score x wq key r g j) :=
  score_real (fun u => x (ix2 r u)) (fun u t => wq (ix2 u (col g t))) (fun t => key (ix3 j g t)) scale
    (fun _ => h.x _) (fun _ _ => h.wq _) (fun _ => h.key _) isReal_scale

/-! ## Sums over an axis cut into equal blocks -/

/-- A sum over `m * n` positions, block by block. -/
theorem sum_blocks {m n : Nat} (f : Fin (m * n) → EReal) :
    ∑ a, f a = ∑ p : Fin m, ∑ q : Fin n, f ⟨n * p.val + q.val, by
      have := Nat.mul_le_mul_left n (Nat.succ_le_of_lt p.isLt)
      have := q.isLt
      rw [Nat.mul_comm m n]; rw [Nat.mul_succ] at *; omega⟩ := by
  rw [← finProdFinEquiv.sum_comp, Fintype.sum_prod_type]
  refine Finset.sum_congr rfl fun p _ => Finset.sum_congr rfl fun q _ => congrArg f (Fin.ext ?_)
  show q.val + n * p.val = n * p.val + q.val
  omega

end Cert.Attention

end
-- ==== Proof.KernelIdeal.Value.lean ====
/-
# What the kernel's result holds

Over the extended reals a change of format is the identity, so each device's contribution to a chunk is its eight heads'
share of the layer's output, and adding up the contributions of the four devices in two exchanges gives the whole. The
devices' blocks of the query matrix and of the output matrix are read off the whole matrices.
-/
module

public import proofs.«01_k».proof.Proof.KernelIdeal.Chunk
public import proofs.«01_k».proof.Proof.Spec
public import Idealize.ShloMosaic.Lib.Pointwise

@[expose] public section

set_option maxRecDepth 16384

noncomputable section

namespace Cert.KernelIdealProof

open Cert.KernelIdeal Cert.KernelIdeal.Gen Cert.Attention

open Idealize.ShloMosaic Idealize.ShloMosaic.TcCoe
open Idealize.SL Idealize.SL.Sem

/-! ## The blocks at an index -/

/-- The scaled queries. -/
theorem query_at (x : Vec Ideal S512x1024 .f32) (w : Vec Ideal S1024x1024 .f32) (r : Fin 512) (a : Fin 1024) :
    k0_pay1 x w (ix2 r a) = (∑ u : Fin 1024, x (ix2 r u) * w (ix2 u a)) * scale := by
  pointwise [k0_pay1, scale]

/-- The rounded output matrix is the output matrix. -/
theorem wo_at (w : Vec Ideal S1024x1024 .f32) (a n : Fin 1024) : k0_pay2 w (ix2 a n) = w (ix2 a n) := by
  pointwise [k0_pay2]

/-- A row of a chunk, and an element of a head, among the rows and columns of the queries. -/
def rowOf (k : Fin 4) (i : Fin 128) : Fin 512 := ⟨128 * k.val + i.val, by omega⟩
def colOf (h : Fin 8) (t : Fin 128) : Fin 1024 := ⟨128 * h.val + t.val, by omega⟩

theorem expo_at (q : FVec Ideal S512x1024 .bf16) (kh : Vec Ideal S1x2048x128 .bf16) (k : Fin 4) (h : Fin 8) (i : Fin 128) (j : Fin 2048) :
    expo q kh k h (ix2 i j) = Ideal.exp (∑ t : Fin 128, q (ix2 (rowOf k i) (colOf h t)) * kh (ix3 0 j t)) := by
  pointwise [expo, rowOf, colOf]

/-- A head's output is the average of its values, weighted by the exponentials of its scores. -/
theorem headOut_at (q : FVec Ideal S512x1024 .bf16) (kh vh : Vec Ideal S1x2048x128 .bf16) (k : Fin 4) (h : Fin 8) (i e : Fin 128) :
    headOut q kh vh k h (ix2 i e)
      = average (fun j => ∑ t : Fin 128, q (ix2 (rowOf k i) (colOf h t)) * kh (ix3 0 j t)) (fun j => vh (ix3 0 j e)) := by
  pointwise [headOut]
  simp only [expo_at, average]

/-- Eight blocks side by side, at an element of block `h`. -/
theorem joined_at (o : Fin 8 → FVec Ideal S128x128 .bf16) (h : Fin 8) (i e : Fin 128) :
    concatenate S128x1024 1 [⟨S128x128, o 0⟩, ⟨S128x128, o 1⟩, ⟨S128x128, o 2⟩, ⟨S128x128, o 3⟩, ⟨S128x128, o 4⟩, ⟨S128x128, o 5⟩,
      ⟨S128x128, o 6⟩, ⟨S128x128, o 7⟩] concatenates_S128x128_S128x128_S128x128_S128x128_S128x128_S128x128_S128x128_S128x128_S128x1024_d1
      (ix2 i (colOf h e)) = o h (ix2 i e) := by
  pointwise [colOf]
  obtain ⟨h, hh⟩ := h
  have := e.isLt
  interval_cases h <;>
  · simp (disch := omega) only [dif_pos, dif_neg]
    refine congrArg (o _) (congrArg (ix2 i) (Fin.ext ?_))
    simp only
    omega

theorem project_at (o : Fin 8 → FVec Ideal S128x128 .bf16) (wo : FVec Ideal S1024x1024 .bf16) (i : Fin 128) (n : Fin 1024) :
    project o wo (ix2 i n) = ∑ h : Fin 8, ∑ e : Fin 128, o h (ix2 i e) * wo (ix2 (colOf h e) n) := by
  unfold project
  generalize hw : concatenate S128x1024 1 _ _ = w
  have : ∀ (h : Fin 8) (e : Fin 128), w (ix2 i (colOf h e)) = o h (ix2 i e) := fun h e => by rw [← hw]; exact joined_at o h i e
  simp only [← this]
  pointwise
  exact sum_blocks (m := 8) (n := 128) fun a => w (ix2 i a) * wo (ix2 a n)

/-- Head `8 c + h` of the 32. -/
def headOf (c : Dev nD) (h : Fin 8) : Fin 32 := ⟨8 * c.val + h.val, by have h : c.val < 4 := c.isLt; omega⟩

theorem headAt_at (c : Dev nD) (A : Vec Ideal S2048x32x128 .f32) (h : Fin 8) (j : Fin 2048) (t : Fin 128) :
    headAt (heads c A) h (ix3 0 j t) = A (ix3 j (headOf c h) t) := by
  pointwise [headAt, heads, headOf]

/-! ## The devices' arrays and the whole arrays -/

/-- Every device holds the whole input, keys and values, its 1024 columns of the query matrix and its 1024 rows of the
    output matrix. -/
structure Holds (I : Inputs Ideal) (x : Arr2 512 1024) (wq : Arr2 1024 4096) (wo : Arr2 4096 1024) (key val : Arr3 2048 32 128) : Prop where
  x : ∀ c, I.x c = x
  wq : ∀ (c : Dev nD) (u : Fin 1024) (h : Fin 8) (t : Fin 128), I.wq c (ix2 u (colOf h t)) = wq (ix2 u (col (headOf c h) t))
  wo : ∀ (c : Dev nD) (h : Fin 8) (t : Fin 128) (n : Fin 1024), I.wo c (ix2 (colOf h t) n) = wo (ix2 (col (headOf c h) t) n)
  key : ∀ c, I.key c = key
  val : ∀ c, I.val c = val

variable {I : Inputs Ideal} {x : Arr2 512 1024} {wq : Arr2 1024 4096} {wo : Arr2 4096 1024} {key val : Arr3 2048 32 128}

/-- Device `c`'s contribution is the sum over its heads. -/
theorem part_at (H : Holds I x wq wo key val) (hf : Finite x wq key) (c : Dev nD) (k : Fin 4) (i : Fin 128) (n : Fin 1024) :
    part I c k (ix2 i n)
      = ∑ h : Fin 8, ∑ e : Fin 128, attend x wq key val (rowOf k i) (headOf c h) e * wo (ix2 (col (headOf c h) e) n) := by
  rw [part, project_at]
  refine Finset.sum_congr rfl fun h _ => Finset.sum_congr rfl fun e _ => ?_
  rw [wo_at, H.wo, headOut_at, attend]
  congr 2
  · funext j
    rw [← (hf.score (rowOf k i) (headOf c h) j).1]
    refine Finset.sum_congr rfl fun t _ => ?_
    rw [query_at, headAt_at, H.x, H.key, query]
    simp only [H.wq]
  · funext j
    rw [headAt_at, H.val]

/-- The four devices' contributions, added in two exchanges, are the sum over the devices. -/
theorem total_at (c : Dev nD) (k : Fin 4) (i : Fin 128) (n : Fin 1024) :
    total I c k (ix2 i n) = ∑ d : Fin 4, part I d k (ix2 i n) := by
  pointwise [total, pair, plus, rnd]
  rw [Fin.sum_univ_four]
  have h : c = 0 ∨ c = 1 ∨ c = 2 ∨ c = 3 := by revert c; decide
  rcases h with rfl | rfl | rfl | rfl
  · show _ + part I 1 k _ + (part I 3 k _ + part I 2 k _) = _
    abel
  · show _ + part I 0 k _ + (part I 2 k _ + part I 3 k _) = _
    abel
  · show _ + part I 3 k _ + (part I 1 k _ + part I 0 k _) = _
    abel
  · show _ + part I 2 k _ + (part I 0 k _ + part I 1 k _) = _
    abel

/-- Every device returns the layer's output. -/
theorem result_at (H : Holds I x wq wo key val) (hf : Finite x wq key) (c : Dev nD) (r : Fin 512) (n : Fin 1024) :
    result I c (ix2 r n) = output x wq wo key val r n := by
  show total I c ⟨r.val / 128, _⟩ (ix2 ⟨r.val % 128, _⟩ n) = _
  rw [total_at, output]
  refine (Finset.sum_congr rfl fun d _ => part_at H hf d _ _ n).trans ?_
  have hr : rowOf ⟨r.val / 128, by omega⟩ ⟨r.val % 128, Nat.mod_lt _ (by decide)⟩ = r := Fin.ext (by simp only [rowOf]; omega)
  rw [hr]
  exact (sum_blocks (m := 4) (n := 8) fun g => ∑ e : Fin 128, attend x wq key val r g e * wo (ix2 (col g e) n)).symm

end Cert.KernelIdealProof

end
-- ==== Proof.Reference.Steps.lean ====
/-
# The steps of the reference

The reference visits the keys in two halves of 1024. For each half it forms the scores, takes each row's maximum with the
largest score so far, rescales the sums it has, and adds the half's exponentials and their products with the values. At
the end it divides and multiplies by the output matrix. This module names those steps.
-/
module

public import proofs.«01_k».proof.Proof.Gen.ReferenceIdeal
public import proofs.«01_k».proof.Proof.Gen.ReferenceIdeal.Run
public import proofs.«01_k».proof.Proof.Spec

@[expose] public section

set_option maxRecDepth 16384

noncomputable section

namespace Cert.ReferenceIdealProof

open Cert.ReferenceIdeal Cert.ReferenceIdeal.Gen Cert.Attention

open Idealize.ShloMosaic Idealize.ShloMosaic.TcCoe
open Idealize.SL Idealize.SL.Sem

/-! ## The steps -/

/-- The queries, head by head. -/
def queries (x : FVec Ideal S512x1024 .f32) (wq : FVec Ideal S1024x4096 .f32) : FVec Ideal S512x32x128 .f32 :=
  shapeCast S512x32x128 (Host.dotGeneral dot_S512x1024_S1024x4096_S512x4096_1_0_0_1_n_n none x wq) shapeCasts_S512x4096_S512x32x128

/-- The two halves of the keys or the values. -/
def lower (a : FVec Ideal S2048x32x128 .f32) : FVec Ideal S1024x32x128 .f32 :=
  extractStridedSlice S1024x32x128 ![0, 0, 0] a slices_S2048x32x128_S1024x32x128_0_0_0
def upper (a : FVec Ideal S2048x32x128 .f32) : FVec Ideal S1024x32x128 .f32 :=
  extractStridedSlice S1024x32x128 ![1024, 0, 0] a slices_S2048x32x128_S1024x32x128_1024_0_0

/-- The scores of one half. -/
def scores (q : FVec Ideal S512x32x128 .f32) (k : FVec Ideal S1024x32x128 .f32) : FVec Ideal S32x512x1024 .f32 :=
  mulf (Host.dotGeneral dot_S512x32x128_S1024x32x128_S32x512x1024_2_2_0_0_1_1 none q k)
    (broadcastInDim S32x512x1024 ![] bcast_S_S32x512x1024 (constant S_ .f32 0x3DB504F3#32))

/-- The largest score so far, given the earlier one and the half's scores. -/
def newMax (m : FVec Ideal S32x512x1 .f32) (s : FVec Ideal S32x512x1024 .f32) : FVec Ideal S32x512x1 .f32 :=
  maximumf m (broadcastInDim S32x512x1 ![0, 1] bcast_S32x512_S32x512x1_0_1
    (Host.reduce FloatOps.maximumf s (constant S_ .f32 0xFF800000#32) reducesTo_S32x512x1024_S32x512_d2 h_S_))

/-- The factor that brings earlier sums to the new maximum. -/
def factor (m m' : FVec Ideal S32x512x1 .f32) : FVec Ideal S32x512x1 .f32 := Host.exp (subf m m')

/-- The exponentials of a half's scores, less the new maximum. -/
def weights (s : FVec Ideal S32x512x1024 .f32) (m' : FVec Ideal S32x512x1 .f32) : FVec Ideal S32x512x1024 .f32 :=
  Host.exp (subf s (broadcastInDim S32x512x1024 ![0, 1, 2] bcast_S32x512x1_S32x512x1024_0_1_2 m'))

/-- The sum of exponentials after a half. -/
def newSum (l f : FVec Ideal S32x512x1 .f32) (p : FVec Ideal S32x512x1024 .f32) : FVec Ideal S32x512x1 .f32 :=
  addf (mulf l f) (broadcastInDim S32x512x1 ![0, 1] bcast_S32x512_S32x512x1_0_1
    (Host.reduceAdd p (constant S_ .f32 0x00000000#32) reducesTo_S32x512x1024_S32x512_d2 h_S_))

/-- A number per head and row, spread over the elements of the head. -/
def spread (f : FVec Ideal S32x512x1 .f32) : FVec Ideal S512x32x128 .f32 :=
  broadcastInDim S512x32x128 ![0, 1, 2] bcast_S512x32x1_S512x32x128_0_1_2 (transpose S512x32x1 [1, 0, 2] f transposes_S32x512x1_S512x32x1_1_0_2)

/-- The weighted sum of the values after a half. -/
def newOut (o : FVec Ideal S512x32x128 .f32) (f : FVec Ideal S32x512x1 .f32) (p : FVec Ideal S32x512x1024 .f32) (v : FVec Ideal S1024x32x128 .f32) :
    FVec Ideal S512x32x128 .f32 :=
  addf (mulf o (spread f)) (transpose S512x32x128 [2, 0, 1]
    (Host.dotGeneral dot_S1024x32x128_S32x512x1024_S32x128x512_0_2_2_1_1_0 none v p) transposes_S32x128x512_S512x32x128_2_0_1)

/-- The quotient, times the output matrix. -/
def finish (o : FVec Ideal S512x32x128 .f32) (l : FVec Ideal S32x512x1 .f32) (wo : FVec Ideal S4096x1024 .f32) : FVec Ideal S512x1024 .f32 :=
  Host.dotGeneral dot_S512x4096_S4096x1024_S512x1024_1_0_0_1_n_n none
    (shapeCast S512x4096 (Host.divf o (spread l)) shapeCasts_S512x32x128_S512x4096) wo

section Run

variable (x : FVec Ideal S512x1024 .f32) (wq : FVec Ideal S1024x4096 .f32) (wo : FVec Ideal S4096x1024 .f32) (key val : FVec Ideal S2048x32x128 .f32)

/-! The numbers count the halves: `0` is the start. -/

def scores₁ := scores (queries x wq) (lower key)
def scores₂ := scores (queries x wq) (upper key)
def max₀ : FVec Ideal S32x512x1 .f32 := broadcastInDim S32x512x1 ![] bcast_S_S32x512x1 (constant S_ .f32 0xFF800000#32)
def sum₀ : FVec Ideal S32x512x1 .f32 := broadcastInDim S32x512x1 ![] bcast_S_S32x512x1 (constant S_ .f32 0x00000000#32)
def out₀ : FVec Ideal S512x32x128 .f32 := broadcastInDim S512x32x128 ![] bcast_S_S512x32x128 (constant S_ .f32 0x00000000#32)
def max₁ := newMax max₀ (scores₁ x wq key)
def max₂ := newMax (max₁ x wq key) (scores₂ x wq key)
def sum₁ := newSum sum₀ (factor max₀ (max₁ x wq key))
  (weights (scores₁ x wq key) (max₁ x wq key))
def sum₂ := newSum (sum₁ x wq key) (factor (max₁ x wq key) (max₂ x wq key)) (weights (scores₂ x wq key) (max₂ x wq key))
def out₁ := newOut out₀ (factor max₀ (max₁ x wq key))
  (weights (scores₁ x wq key) (max₁ x wq key)) (lower val)
def out₂ := newOut (out₁ x wq key val) (factor (max₁ x wq key) (max₂ x wq key)) (weights (scores₂ x wq key) (max₂ x wq key)) (upper val)

/-- The reference's result. -/
def reference : FVec Ideal S512x1024 .f32 := finish (out₂ x wq key val) (sum₂ x wq key) wo

end Run

/-- The reference's run returns it. -/
theorem res_eq (m : (ℓ : Loc nD τ sig) → Buf (Elt Ideal) ℓ) (c : Dev nD) :
    Value.res_main_v55 m c = reference (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-! ## The steps at an index -/

end Cert.ReferenceIdealProof

end
-- ==== Proof.Reference.Value.lean ====
/-
# What the reference's result holds

Each step of the reference is read at an index. With real scores, its two steps of an online softmax are the plain average
of `Spec`, so the reference returns the layer's output.
-/
module

public import proofs.«01_k».proof.Proof.Gen.ReferenceIdeal
public import proofs.«01_k».proof.Proof.Gen.ReferenceIdeal.Run
public import proofs.«01_k».proof.Proof.Spec
public import proofs.«01_k».proof.Proof.Reference.Steps
public import Idealize.ShloMosaic.Lib.Pointwise

@[expose] public section

set_option maxRecDepth 16384

noncomputable section

namespace Cert.ReferenceIdealProof

open Cert.ReferenceIdeal Cert.ReferenceIdeal.Gen Cert.Attention

open Idealize.ShloMosaic Idealize.ShloMosaic.TcCoe
open Idealize.SL Idealize.SL.Sem

theorem queries_at (x : FVec Ideal S512x1024 .f32) (wq : FVec Ideal S1024x4096 .f32) (r : Fin 512) (g : Fin 32) (t : Fin 128) :
    queries x wq (ix3 r g t) = query x wq r (col g t) := by
  pointwise [queries, query, col]
  exact Finset.sum_congr rfl fun u _ => congrArg (fun a => x (ix2 r u) * wq (ix2 u a)) (Fin.ext (congrArg (· + t.val) (Nat.mul_comm g.val 128)))

theorem scores_at (q : FVec Ideal S512x32x128 .f32) (k : FVec Ideal S1024x32x128 .f32) (g : Fin 32) (r : Fin 512) (j : Fin 1024) :
    scores q k (ix3 g r j) = (∑ t : Fin 128, q (ix3 r g t) * k (ix3 j g t)) * scale := by
  pointwise [scores, scale]

theorem ofBits_bot : Ideal.ofBits .f32 0xFF800000#32 = ⊥ := by simp [Ideal.ofBits, Ideal.ieee]

/-- A maximum along one axis, started from `⊥`, is real when the operand is. -/
theorem reduce_real {s t u : Shape} {a : Fin s.rank} (x : FVec Ideal s .f32) (init : FVec Ideal u .f32) (h' : s.ReducesTo [a] t) (h : s.Reduces [a] t)
    (hu : 0 < u.numel) (hn : 0 < s.size a) (hi : ∀ i, init i = ⊥) (hx : ∀ i, IsReal (x i)) (j : t.Idx) :
    IsReal (Host.reduce (FloatOps.maximumf (F := Ideal) (φ := .f32)) x init h' hu j) := by
  rw [Host.reduce_eq_fold_single FloatOps.maximumf x init h' h hu j, hi]
  have : Nonempty (Fin (s.size a)) := ⟨⟨0, hn⟩⟩
  exact isReal_max _ fun j => hx _

theorem max_at (m : FVec Ideal S32x512x1 .f32) (M : FVec Ideal S32x512 .f32) (g : Fin 32) (r : Fin 512) :
    maximumf m (broadcastInDim S32x512x1 ![0, 1] bcast_S32x512_S32x512x1_0_1 M) (ix3 g r 0) = max (m (ix3 g r 0)) (M (ix2 g r)) := by
  pointwise

/-- The new maximum is real when the half's scores are, and the earlier one is real or the start. -/
theorem newMax_real (m : FVec Ideal S32x512x1 .f32) (s : FVec Ideal S32x512x1024 .f32) (hs : ∀ i, IsReal (s i)) (g : Fin 32) (r : Fin 512)
    (hm : m (ix3 g r 0) = ⊥ ∨ IsReal (m (ix3 g r 0))) : IsReal (newMax m s (ix3 g r 0)) := by
  have hr := reduce_real s (constant (F := Ideal) S_ .f32 0xFF800000#32) reducesTo_S32x512x1024_S32x512_d2 (by decide) h_S_ (by decide)
    (fun _ => ofBits_bot) hs
  rw [newMax, max_at]
  rcases hm with h | h
  · rw [h, max_eq_right bot_le]
    exact hr _
  · exact isReal_max₂ h (hr _)

theorem factor_at (m m' : FVec Ideal S32x512x1 .f32) (g : Fin 32) (r : Fin 512) :
    factor m m' (ix3 g r 0) = Ideal.exp (m (ix3 g r 0) - m' (ix3 g r 0)) := by
  pointwise [factor]

theorem weights_at (s : FVec Ideal S32x512x1024 .f32) (m' : FVec Ideal S32x512x1 .f32) (g : Fin 32) (r : Fin 512) (j : Fin 1024) :
    weights s m' (ix3 g r j) = Ideal.exp (s (ix3 g r j) - m' (ix3 g r 0)) := by
  pointwise [weights]

theorem newSum_at (l f : FVec Ideal S32x512x1 .f32) (p : FVec Ideal S32x512x1024 .f32) (g : Fin 32) (r : Fin 512) :
    newSum l f p (ix3 g r 0) = l (ix3 g r 0) * f (ix3 g r 0) + ∑ j : Fin 1024, p (ix3 g r j) := by
  pointwise [newSum]

theorem spread_at (f : FVec Ideal S32x512x1 .f32) (r : Fin 512) (g : Fin 32) (e : Fin 128) : spread f (ix3 r g e) = f (ix3 g r 0) := by
  pointwise [spread]

theorem newOut_at (o : FVec Ideal S512x32x128 .f32) (f : FVec Ideal S32x512x1 .f32) (p : FVec Ideal S32x512x1024 .f32)
    (v : FVec Ideal S1024x32x128 .f32) (r : Fin 512) (g : Fin 32) (e : Fin 128) :
    newOut o f p v (ix3 r g e) = o (ix3 r g e) * f (ix3 g r 0) + ∑ j : Fin 1024, v (ix3 j g e) * p (ix3 g r j) := by
  pointwise [newOut, spread]

theorem finish_at (o : FVec Ideal S512x32x128 .f32) (l : FVec Ideal S32x512x1 .f32) (wo : FVec Ideal S4096x1024 .f32) (r : Fin 512) (n : Fin 1024) :
    finish o l wo (ix2 r n) = ∑ g : Fin 32, ∑ e : Fin 128, Ideal.div (o (ix3 r g e)) (l (ix3 g r 0)) * wo (ix2 (col g e) n) := by
  pointwise [finish, spread]
  refine (sum_blocks (m := 32) (n := 128) _).trans (Finset.sum_congr rfl fun g _ => Finset.sum_congr rfl fun e _ => ?_)
  have h1 : ∀ p q, (⟨(⟨128 * g.val + e.val, p⟩ : Fin 4096).val / 128, q⟩ : Fin 32) = g := fun _ _ => Fin.ext (by simp only; omega)
  have h2 : ∀ p q, (⟨(⟨128 * g.val + e.val, p⟩ : Fin 4096).val % 128, q⟩ : Fin 128) = e := fun _ _ => Fin.ext (by simp only; omega)
  simp only [h1, h2, col]

/-! ## The result -/

/-- Key `j` of the lower and of the upper half. -/
def lo (j : Fin 1024) : Fin 2048 := ⟨j.val, by omega⟩
def hi (j : Fin 1024) : Fin 2048 := ⟨1024 + j.val, by omega⟩

theorem sum_halves (f : Fin 2048 → EReal) : ∑ j, f j = (∑ j, f (lo j)) + ∑ j, f (hi j) := Fin.sum_univ_add (a := 1024) (b := 1024) f

theorem lower_at (a : FVec Ideal S2048x32x128 .f32) (j : Fin 1024) (g : Fin 32) (t : Fin 128) : lower a (ix3 j g t) = a (ix3 (lo j) g t) := by
  pointwise [lower, lo]

theorem upper_at (a : FVec Ideal S2048x32x128 .f32) (j : Fin 1024) (g : Fin 32) (t : Fin 128) : upper a (ix3 j g t) = a (ix3 (hi j) g t) := by
  pointwise [upper, hi]

variable {x : FVec Ideal S512x1024 .f32} {wq : FVec Ideal S1024x4096 .f32} {key : FVec Ideal S2048x32x128 .f32}

theorem scores₁_at (g : Fin 32) (r : Fin 512) (j : Fin 1024) : scores₁ x wq key (ix3 g r j) = score x wq key r g (lo j) := by
  simp only [scores₁, scores_at, queries_at, lower_at, score]

theorem scores₂_at (g : Fin 32) (r : Fin 512) (j : Fin 1024) : scores₂ x wq key (ix3 g r j) = score x wq key r g (hi j) := by
  simp only [scores₂, scores_at, queries_at, upper_at, score]

theorem max₀_at (g : Fin 32) (r : Fin 512) : max₀ (ix3 g r 0) = ⊥ := ofBits_bot

theorem max₁_real (h : Finite x wq key) (g : Fin 32) (r : Fin 512) : IsReal (max₁ x wq key (ix3 g r 0)) :=
  newMax_real _ _ (fun i => by idx_vars i; rw [scores₁_at]; exact (h.score _ _ _).2) g r (.inl (max₀_at g r))

theorem max₂_real (h : Finite x wq key) (g : Fin 32) (r : Fin 512) : IsReal (max₂ x wq key (ix3 g r 0)) :=
  newMax_real _ _ (fun i => by idx_vars i; rw [scores₂_at]; exact (h.score _ _ _).2) g r (.inr (max₁_real h g r))

theorem sum₀_at (g : Fin 32) (r : Fin 512) : sum₀ (ix3 g r 0) = 0 := by pointwise [sum₀]

theorem out₀_at (r : Fin 512) (g : Fin 32) (e : Fin 128) : out₀ (ix3 r g e) = 0 := by pointwise [out₀]

/-- After both halves the quotient is the attention output. -/
theorem quotient_at (h : Finite x wq key) (val : FVec Ideal S2048x32x128 .f32) (r : Fin 512) (g : Fin 32) (e : Fin 128) :
    Ideal.div (out₂ x wq key val (ix3 r g e)) (sum₂ x wq key (ix3 g r 0)) = attend x wq key val r g e := by
  rw [attend, average, sum_halves, sum_halves]
  refine Eq.trans ?_ (online (fun j => score x wq key r g (lo j)) (fun j => score x wq key r g (hi j))
    (fun j => val (ix3 (lo j) g e)) (fun j => val (ix3 (hi j) g e)) _ _ (fun _ => (h.score _ _ _).2) (fun _ => (h.score _ _ _).2)
    (max₁_real h g r) (max₂_real h g r) (by decide))
  simp only [out₂, out₁, sum₂, sum₁, newOut_at, newSum_at, factor_at, weights_at, scores₁_at, scores₂_at, lower_at, upper_at, max₀_at,
    sum₀_at, out₀_at]

/-- The reference returns the layer's output. -/
theorem reference_at (h : Finite x wq key) (wo : FVec Ideal S4096x1024 .f32) (val : FVec Ideal S2048x32x128 .f32) (r : Fin 512) (n : Fin 1024) :
    reference x wq wo key val (ix2 r n) = output x wq wo key val r n := by
  rw [reference, finish_at, output]
  simp only [quotient_at h]

end Cert.ReferenceIdealProof

end
-- ==== Proof.Arguments.lean ====
/-
# The arguments of the two programs

The reference is given the whole arrays. Each kernel device is given the whole input, keys and values, a quarter of the
columns of the query matrix and a quarter of the rows of the output matrix. The precondition says that the absolute
values of the input, of the devices' columns of the query matrix and of the keys are below infinity.
-/
module

public import proofs.«01_k».proof.Defs
public import proofs.«01_k».proof.Proof.Gen.Pre_finite_KernelIdeal
public import proofs.«01_k».proof.Proof.KernelIdeal.Value
public import proofs.«01_k».proof.Proof.KernelIdeal.Program

@[expose] public section

noncomputable section

namespace Cert.Arguments

open Idealize.ShloMosaic Idealize.ShloMosaic.TcCoe Idealize.SL.Sem
open Cert.Attention Cert.KernelIdealProof

/-! ## The precondition -/

/-- An extended real whose absolute value is below infinity is real. -/
theorem isReal_of_abs (a : EReal) (h : BitVec.ofBool (decide (FloatOps.absf (F := Ideal) (φ := .f32) a < Ideal.ofBits .f32 0x7F800000#32)) = 1#1) : IsReal a := by
  have ht : Ideal.ofBits .f32 0x7F800000#32 = ⊤ := by simp [Ideal.ofBits, Ideal.ieee]
  rw [ht] at h
  induction a with
  | bot => simp [FloatOps.absf] at h
  | top => simp [FloatOps.absf] at h
  | coe r => exact ⟨r, rfl⟩

variable {x : Arr2 512 1024} {wq wo : Arr2 1024 1024} {key val : Arr3 2048 32 128}

theorem real_x (h : (Cert.Pre_finite_KernelIdeal.fn (F := Ideal) x wq wo key val).1 = fun _ => 1#1) (i) : IsReal (x i) := by
  have h := congrFun h i
  simp only [Cert.Pre_finite_KernelIdeal.fn] at h
  pointwise at h
  exact isReal_of_abs _ h

theorem real_wq (h : (Cert.Pre_finite_KernelIdeal.fn (F := Ideal) x wq wo key val).2.1 = fun _ => 1#1) (i) : IsReal (wq i) := by
  have h := congrFun h i
  simp only [Cert.Pre_finite_KernelIdeal.fn] at h
  pointwise at h
  exact isReal_of_abs _ h

theorem real_key (h : (Cert.Pre_finite_KernelIdeal.fn (F := Ideal) x wq wo key val).2.2 = fun _ => 1#1) (i) : IsReal (key i) := by
  have h := congrFun h i
  simp only [Cert.Pre_finite_KernelIdeal.fn] at h
  pointwise at h
  exact isReal_of_abs _ h

/-! ## The devices' blocks -/

/-- Device `c`'s block of columns, at column `128 h + t`, is the whole matrix at column `t` of head `8 c + h`. -/
theorem columns_at (v : Arr2 1024 4096) (c : Fin 4) (u : Fin 1024) (h : Fin 8) (t : Fin 128) :
    Layout.block ⟨2, ![1024, 1024]⟩ ⟨2, ![1024, 4096]⟩ 1 4 c v (by decide) (ix2 u (colOf h t)) = v (ix2 u (col (headOf c h) t)) := by
  refine congrArg v ((eq_ix2 _).trans (congrArg (ix2 u) (Fin.ext ?_)))
  show c.val * 1024 + (128 * h.val + t.val) = 128 * (8 * c.val + h.val) + t.val
  omega

/-- Device `c`'s block of rows, at row `128 h + t`, is the whole matrix at row `t` of head `8 c + h`. -/
theorem rows_at (v : Arr2 4096 1024) (c : Fin 4) (h : Fin 8) (t : Fin 128) (n : Fin 1024) :
    Layout.block ⟨2, ![1024, 1024]⟩ ⟨2, ![4096, 1024]⟩ 0 4 c v (by decide) (ix2 (colOf h t) n) = v (ix2 (col (headOf c h) t) n) := by
  refine congrArg v ((eq_ix2 _).trans (congrArg (ix2 · n) (Fin.ext ?_)))
  show c.val * 1024 + (128 * h.val + t.val) = 128 * (8 * c.val + h.val) + t.val
  omega

/-- A column of the 4096 is column `t` of head `h` on some device. -/
theorem column_cases (a : Fin 4096) : ∃ (c : Fin 4) (h : Fin 8) (t : Fin 128), a = col (headOf c h) t :=
  ⟨⟨a.val / 1024, by omega⟩, ⟨a.val / 128 % 8, by omega⟩, ⟨a.val % 128, by omega⟩, Fin.ext (by simp only [col, headOf]; omega)⟩

/-- The query matrix is real when every device's columns are. -/
theorem columns_real {I : Inputs Ideal} {x : Arr2 512 1024} {wq : Arr2 1024 4096} {wo : Arr2 4096 1024} {key val : Arr3 2048 32 128}
    (H : Holds I x wq wo key val) (hw : ∀ c i, IsReal (I.wq c i)) (i) : IsReal (wq i) := by
  idx_vars i
  obtain ⟨c, h, t, rfl⟩ := column_cases i1
  rw [← H.wq]
  exact hw _ _

end Cert.Arguments

end
-- ==== Proof.lean ====
/-
# The claims

Each device's run of the kernel ends with its arguments unchanged and all counters at zero, over the machine's floats and over
the extended reals; so does the reference's run. Over the extended reals, where the input, the query matrix and the keys hold
no infinity, every device of the kernel returns what the reference returns.
-/
module

public import proofs.«01_k».proof.Defs
public import proofs.«01_k».proof.Proof.Kernel.Program
public import proofs.«01_k».proof.Proof.KernelIdeal.Program
public import proofs.«01_k».proof.Proof.KernelIdeal.Value
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Reference.Value
public import proofs.«01_k».proof.Proof.Arguments

@[expose] public section

noncomputable section

namespace Cert.Proof

open Idealize.ShloMosaic Idealize.SL.Sem
open Cert.Attention

/-! ## The runs -/

/-- The kernel over the machine's floats. -/
theorem frame_kernel : Cert.quiescent_Kernel (hKernel := Cert.Kernel.Gen.facts) := fun m g _ =>
  (θ_run _ _ _).mono (fun _ h => ⟨fun c => (h.1 c).2, h.2⟩) (Cert.KernelProof.run_value (F := Bits) m g)

/-- The kernel over the extended reals. -/
theorem frame_ideal : Cert.quiescent_KernelIdeal (hKernelIdeal := Cert.KernelIdeal.Gen.facts) := fun m g _ =>
  (θ_run _ _ _).mono (fun _ h => ⟨fun c => (h.1 c).2, h.2⟩) (Cert.KernelIdealProof.run_value (F := Ideal) m g)

/-- The reference over the extended reals; it has no counters. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The kernel over the extended reals, where the arrays meet the precondition. -/
theorem frame_ideal_finite : Cert.quiescent_KernelIdeal_pre_finite_KernelIdeal (hKernelIdeal := Cert.KernelIdeal.Gen.facts)
    (hPre_finite_KernelIdeal := Cert.Pre_finite_KernelIdeal.Gen.facts) := fun m g _ =>
  (θ_run _ _ _).mono (fun _ h => ⟨fun c => (h.1 c).2, h.2⟩) (Cert.KernelIdealProof.run_value (F := Ideal) m g)

/-- The reference over the extended reals, where the arrays meet the precondition. -/
theorem frame_reference_finite : Cert.quiescent_ReferenceIdeal_pre_finite_ReferenceIdeal (hReferenceIdeal := Cert.ReferenceIdeal.Gen.facts)
    (hPre_finite_ReferenceIdeal := Cert.Pre_finite_ReferenceIdeal.Gen.facts) := fun m g _ =>
  (θ_run _ _ _).mono (fun r h => ⟨fun c => (h c).2, sem_eq_zero_of_no_sems (by decide) r.2⟩) (Cert.ReferenceIdeal.Value.run (F := Ideal) m g)

/-! ## The values -/

/-- Every device of the kernel returns what the reference returns: both return the layer's `output`. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hpre hargs
  have H : Cert.KernelIdealProof.Holds (Cert.KernelIdealProof.inputs m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (Cert.KernelIdealProof.inputs_x m c).trans (hargs c).1
      wq := fun c u h t => (congrFun ((Cert.KernelIdealProof.inputs_wq m c).trans (hargs c).2.1) _).trans (Cert.Arguments.columns_at _ c u h t)
      wo := fun c h t n => (congrFun ((Cert.KernelIdealProof.inputs_wo m c).trans (hargs c).2.2.1) _).trans (Cert.Arguments.rows_at _ c h t n)
      key := fun c => (hargs c).2.2.2.1
      val := fun c => (hargs c).2.2.2.2 }
  have hf : Attention.Finite
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg3)) :=
    { x := fun i => (hargs 0).1 ▸ Cert.Arguments.real_x (hpre 0).1 i
      wq := Cert.Arguments.columns_real H fun c i => (congrArg IsReal (congrFun (Cert.KernelIdealProof.inputs_wq m c) i)).mpr (Cert.Arguments.real_wq (hpre c).2.1 i)
      key := fun i => (hargs 0).2.2.2.1 ▸ Cert.Arguments.real_key (hpre 0).2.2 i }
  refine ⟨_, (θ_run _ _ _).mono (fun _ h c => ⟨(h.1 c).1.trans ?_, (h.1 c).2⟩) (Cert.KernelIdealProof.run_value (F := Ideal) m g),
    (θ_run _ _ _).mono (fun _ h => ⟨(h 0).1, (h 0).2⟩) (Cert.ReferenceIdeal.Value.run (F := Ideal) m' g')⟩
  rw [Cert.ReferenceIdealProof.res_eq]
  funext i
  idx_vars i
  exact (Cert.KernelIdealProof.result_at H hf c _ _).trans (Cert.ReferenceIdealProof.reference_at hf _ _ _ _).symm

/-- Everything claimed. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_finite, frame_reference, frame_reference_finite, trivial, algebraic⟩

end Cert.Proof

end
